-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_HyenaIn (m : (ℓ : Loc Cert.HyenaIn.nD Cert.HyenaIn.τ Cert.HyenaIn.sig) → Buf (Elt Bits) ℓ) : Prop :=
  True

def Pre_HyenaInIdeal (m : (ℓ : Loc Cert.HyenaInIdeal.nD Cert.HyenaInIdeal.τ Cert.HyenaInIdeal.sig) → Buf (Elt Ideal) ℓ) : Prop :=
  True

def Pre_HyenaInIdeal_finite_in [hPre_finite_in : Cert.Pre_finite_in.Facts] (m : (ℓ : Loc Cert.HyenaInIdeal.nD Cert.HyenaInIdeal.τ Cert.HyenaInIdeal.sig) → Buf (Elt Ideal) ℓ) : Prop :=
  ∀ c : Dev Cert.HyenaInIdeal.nD,
    (Cert.Pre_finite_in.fn (F := Ideal) (m ((c.tc : Thread Cert.HyenaInIdeal.nD Cert.HyenaInIdeal.τ).loc Cert.HyenaInIdeal.main_arg0)) (m ((c.tc : Thread Cert.HyenaInIdeal.nD Cert.HyenaInIdeal.τ).loc Cert.HyenaInIdeal.main_arg1)) (m ((c.tc : Thread Cert.HyenaInIdeal.nD Cert.HyenaInIdeal.τ).loc Cert.HyenaInIdeal.main_arg2)) (m ((c.tc : Thread Cert.HyenaInIdeal.nD Cert.HyenaInIdeal.τ).loc Cert.HyenaInIdeal.main_arg3)) (m ((c.tc : Thread Cert.HyenaInIdeal.nD Cert.HyenaInIdeal.τ).loc Cert.HyenaInIdeal.main_arg4)) (m ((c.tc : Thread Cert.HyenaInIdeal.nD Cert.HyenaInIdeal.τ).loc Cert.HyenaInIdeal.main_arg5))) = (fun _ => 1#1)

def Pre_HyenaInReferenceIdeal (m : (ℓ : Loc Cert.HyenaInReferenceIdeal.nD Cert.HyenaInReferenceIdeal.τ Cert.HyenaInReferenceIdeal.sig) → Buf (Elt Ideal) ℓ) : Prop :=
  True

def Pre_HyenaInReferenceIdeal_finite_in [hPre_finite_in : Cert.Pre_finite_in.Facts] (m : (ℓ : Loc Cert.HyenaInReferenceIdeal.nD Cert.HyenaInReferenceIdeal.τ Cert.HyenaInReferenceIdeal.sig) → Buf (Elt Ideal) ℓ) : Prop :=
  ∀ c : Dev Cert.HyenaInReferenceIdeal.nD,
    (Cert.Pre_finite_in.fn (F := Ideal) (m ((c.tc : Thread Cert.HyenaInReferenceIdeal.nD Cert.HyenaInReferenceIdeal.τ).loc Cert.HyenaInReferenceIdeal.main_arg0)) (m ((c.tc : Thread Cert.HyenaInReferenceIdeal.nD Cert.HyenaInReferenceIdeal.τ).loc Cert.HyenaInReferenceIdeal.main_arg1)) (m ((c.tc : Thread Cert.HyenaInReferenceIdeal.nD Cert.HyenaInReferenceIdeal.τ).loc Cert.HyenaInReferenceIdeal.main_arg2)) (m ((c.tc : Thread Cert.HyenaInReferenceIdeal.nD Cert.HyenaInReferenceIdeal.τ).loc Cert.HyenaInReferenceIdeal.main_arg3)) (m ((c.tc : Thread Cert.HyenaInReferenceIdeal.nD Cert.HyenaInReferenceIdeal.τ).loc Cert.HyenaInReferenceIdeal.main_arg4)) (m ((c.tc : Thread Cert.HyenaInReferenceIdeal.nD Cert.HyenaInReferenceIdeal.τ).loc Cert.HyenaInReferenceIdeal.main_arg5))) = (fun _ => 1#1)

def Pre_ProjFfn (m : (ℓ : Loc Cert.ProjFfn.nD Cert.ProjFfn.τ Cert.ProjFfn.sig) → Buf (Elt Bits) ℓ) : Prop :=
  True

def Pre_ProjFfnIdeal (m : (ℓ : Loc Cert.ProjFfnIdeal.nD Cert.ProjFfnIdeal.τ Cert.ProjFfnIdeal.sig) → Buf (Elt Ideal) ℓ) : Prop :=
  True

def Pre_ProjFfnReferenceIdeal (m : (ℓ : Loc Cert.ProjFfnReferenceIdeal.nD Cert.ProjFfnReferenceIdeal.τ Cert.ProjFfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_HyenaIn [hHyenaIn : Cert.HyenaIn.Facts] : Prop :=
  ∀ (m : (ℓ : Loc Cert.HyenaIn.nD Cert.HyenaIn.τ Cert.HyenaIn.sig) → Buf (Elt Bits) ℓ) (g : Dev Cert.HyenaIn.nD → PrngReg), Pre_HyenaIn m →
    θ_run (Cert.HyenaIn.defs (F := Bits)) (onTc (τ := Cert.HyenaIn.τ) (Cert.HyenaIn.main (F := Bits))) ⟨m, fun _ => 0, g⟩ (fun r => (∀ c : Dev Cert.HyenaIn.nD,
      r.2.mem ((c.tc : Thread Cert.HyenaIn.nD Cert.HyenaIn.τ).loc Cert.HyenaIn.main_arg0) = m ((c.tc : Thread Cert.HyenaIn.nD Cert.HyenaIn.τ).loc Cert.HyenaIn.main_arg0)
      ∧ r.2.mem ((c.tc : Thread Cert.HyenaIn.nD Cert.HyenaIn.τ).loc Cert.HyenaIn.main_arg1) = m ((c.tc : Thread Cert.HyenaIn.nD Cert.HyenaIn.τ).loc Cert.HyenaIn.main_arg1)
      ∧ r.2.mem ((c.tc : Thread Cert.HyenaIn.nD Cert.HyenaIn.τ).loc Cert.HyenaIn.main_arg2) = m ((c.tc : Thread Cert.HyenaIn.nD Cert.HyenaIn.τ).loc Cert.HyenaIn.main_arg2)
      ∧ r.2.mem ((c.tc : Thread Cert.HyenaIn.nD Cert.HyenaIn.τ).loc Cert.HyenaIn.main_arg3) = m ((c.tc : Thread Cert.HyenaIn.nD Cert.HyenaIn.τ).loc Cert.HyenaIn.main_arg3)
      ∧ r.2.mem ((c.tc : Thread Cert.HyenaIn.nD Cert.HyenaIn.τ).loc Cert.HyenaIn.main_arg4) = m ((c.tc : Thread Cert.HyenaIn.nD Cert.HyenaIn.τ).loc Cert.HyenaIn.main_arg4)
      ∧ r.2.mem ((c.tc : Thread Cert.HyenaIn.nD Cert.HyenaIn.τ).loc Cert.HyenaIn.main_arg5) = m ((c.tc : Thread Cert.HyenaIn.nD Cert.HyenaIn.τ).loc Cert.HyenaIn.main_arg5))
      ∧ r.2.sem = fun _ => 0)

def quiescent_HyenaInIdeal [hHyenaInIdeal : Cert.HyenaInIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg), Pre_HyenaInIdeal m →
    θ_run (Cert.HyenaInIdeal.defs (F := Ideal)) (onTc (τ := Cert.HyenaInIdeal.τ) (Cert.HyenaInIdeal.main (F := Ideal))) ⟨m, fun _ => 0, g⟩ (fun r => (∀ c : Dev Cert.HyenaInIdeal.nD,
      r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
      ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1)
      ∧ r.2.mem ((c.tc : Thread Cert.HyenaInIdeal.nD Cert.HyenaInIdeal.τ).loc Cert.HyenaInIdeal.main_arg2) = m ((c.tc : Thread Cert.HyenaInIdeal.nD Cert.HyenaInIdeal.τ).loc Cert.HyenaInIdeal.main_arg2)
      ∧ r.2.mem ((c.tc : Thread Cert.HyenaInIdeal.nD Cert.HyenaInIdeal.τ).loc Cert.HyenaInIdeal.main_arg3) = m ((c.tc : Thread Cert.HyenaInIdeal.nD Cert.HyenaInIdeal.τ).loc Cert.HyenaInIdeal.main_arg3)
      ∧ r.2.mem ((c.tc : Thread Cert.HyenaInIdeal.nD Cert.HyenaInIdeal.τ).loc Cert.HyenaInIdeal.main_arg4) = m ((c.tc : Thread Cert.HyenaInIdeal.nD Cert.HyenaInIdeal.τ).loc Cert.HyenaInIdeal.main_arg4)
      ∧ r.2.mem ((c.tc : Thread Cert.HyenaInIdeal.nD Cert.HyenaInIdeal.τ).loc Cert.HyenaInIdeal.main_arg5) = m ((c.tc : Thread Cert.HyenaInIdeal.nD Cert.HyenaInIdeal.τ).loc Cert.HyenaInIdeal.main_arg5))
      ∧ r.2.sem = fun _ => 0)

def quiescent_HyenaInIdeal_pre_finite_in [hHyenaInIdeal : Cert.HyenaInIdeal.Facts] [hPre_finite_in : Cert.Pre_finite_in.Facts] : Prop :=
  ∀ (m : (ℓ : Loc Cert.HyenaInIdeal.nD Cert.HyenaInIdeal.τ Cert.HyenaInIdeal.sig) → Buf (Elt Ideal) ℓ) (g : Dev Cert.HyenaInIdeal.nD → PrngReg), Pre_HyenaInIdeal_finite_in m →
    θ_run (Cert.HyenaInIdeal.defs (F := Ideal)) (onTc (τ := Cert.HyenaInIdeal.τ) (Cert.HyenaInIdeal.main (F := Ideal))) ⟨m, fun _ => 0, g⟩ (fun r => (∀ c : Dev Cert.HyenaInIdeal.nD,
      r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
      ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1)
      ∧ r.2.mem ((c.tc : Thread Cert.HyenaInIdeal.nD Cert.HyenaInIdeal.τ).loc Cert.HyenaInIdeal.main_arg2) = m ((c.tc : Thread Cert.HyenaInIdeal.nD Cert.HyenaInIdeal.τ).loc Cert.HyenaInIdeal.main_arg2)
      ∧ r.2.mem ((c.tc : Thread Cert.HyenaInIdeal.nD Cert.HyenaInIdeal.τ).loc Cert.HyenaInIdeal.main_arg3) = m ((c.tc : Thread Cert.HyenaInIdeal.nD Cert.HyenaInIdeal.τ).loc Cert.HyenaInIdeal.main_arg3)
      ∧ r.2.mem ((c.tc : Thread Cert.HyenaInIdeal.nD Cert.HyenaInIdeal.τ).loc Cert.HyenaInIdeal.main_arg4) = m ((c.tc : Thread Cert.HyenaInIdeal.nD Cert.HyenaInIdeal.τ).loc Cert.HyenaInIdeal.main_arg4)
      ∧ r.2.mem ((c.tc : Thread Cert.HyenaInIdeal.nD Cert.HyenaInIdeal.τ).loc Cert.HyenaInIdeal.main_arg5) = m ((c.tc : Thread Cert.HyenaInIdeal.nD Cert.HyenaInIdeal.τ).loc Cert.HyenaInIdeal.main_arg5))
      ∧ r.2.sem = fun _ => 0)

def quiescent_HyenaInReferenceIdeal [hHyenaInReferenceIdeal : Cert.HyenaInReferenceIdeal.Facts] : Prop :=
  ∀ (m : (ℓ : Loc Cert.HyenaInReferenceIdeal.nD Cert.HyenaInReferenceIdeal.τ Cert.HyenaInReferenceIdeal.sig) → Buf (Elt Ideal) ℓ) (g : Dev Cert.HyenaInReferenceIdeal.nD → PrngReg), Pre_HyenaInReferenceIdeal m →
    θ_run (Cert.HyenaInReferenceIdeal.defs (F := Ideal)) (onTc (τ := Cert.HyenaInReferenceIdeal.τ) (Cert.HyenaInReferenceIdeal.main (F := Ideal))) ⟨m, fun _ => 0, g⟩ (fun r => (∀ c : Dev Cert.HyenaInReferenceIdeal.nD,
      r.2.mem ((c.tc : Thread Cert.HyenaInReferenceIdeal.nD Cert.HyenaInReferenceIdeal.τ).loc Cert.HyenaInReferenceIdeal.main_arg0) = m ((c.tc : Thread Cert.HyenaInReferenceIdeal.nD Cert.HyenaInReferenceIdeal.τ).loc Cert.HyenaInReferenceIdeal.main_arg0)
      ∧ r.2.mem ((c.tc : Thread Cert.HyenaInReferenceIdeal.nD Cert.HyenaInReferenceIdeal.τ).loc Cert.HyenaInReferenceIdeal.main_arg1) = m ((c.tc : Thread Cert.HyenaInReferenceIdeal.nD Cert.HyenaInReferenceIdeal.τ).loc Cert.HyenaInReferenceIdeal.main_arg1)
      ∧ r.2.mem ((c.tc : Thread Cert.HyenaInReferenceIdeal.nD Cert.HyenaInReferenceIdeal.τ).loc Cert.HyenaInReferenceIdeal.main_arg2) = m ((c.tc : Thread Cert.HyenaInReferenceIdeal.nD Cert.HyenaInReferenceIdeal.τ).loc Cert.HyenaInReferenceIdeal.main_arg2)
      ∧ r.2.mem ((c.tc : Thread Cert.HyenaInReferenceIdeal.nD Cert.HyenaInReferenceIdeal.τ).loc Cert.HyenaInReferenceIdeal.main_arg3) = m ((c.tc : Thread Cert.HyenaInReferenceIdeal.nD Cert.HyenaInReferenceIdeal.τ).loc Cert.HyenaInReferenceIdeal.main_arg3)
      ∧ r.2.mem ((c.tc : Thread Cert.HyenaInReferenceIdeal.nD Cert.HyenaInReferenceIdeal.τ).loc Cert.HyenaInReferenceIdeal.main_arg4) = m ((c.tc : Thread Cert.HyenaInReferenceIdeal.nD Cert.HyenaInReferenceIdeal.τ).loc Cert.HyenaInReferenceIdeal.main_arg4)
      ∧ r.2.mem ((c.tc : Thread Cert.HyenaInReferenceIdeal.nD Cert.HyenaInReferenceIdeal.τ).loc Cert.HyenaInReferenceIdeal.main_arg5) = m ((c.tc : Thread Cert.HyenaInReferenceIdeal.nD Cert.HyenaInReferenceIdeal.τ).loc Cert.HyenaInReferenceIdeal.main_arg5))
      ∧ r.2.sem = fun _ => 0)

def quiescent_HyenaInReferenceIdeal_pre_finite_in [hHyenaInReferenceIdeal : Cert.HyenaInReferenceIdeal.Facts] [hPre_finite_in : Cert.Pre_finite_in.Facts] : Prop :=
  ∀ (m : (ℓ : Loc Cert.HyenaInReferenceIdeal.nD Cert.HyenaInReferenceIdeal.τ Cert.HyenaInReferenceIdeal.sig) → Buf (Elt Ideal) ℓ) (g : Dev Cert.HyenaInReferenceIdeal.nD → PrngReg), Pre_HyenaInReferenceIdeal_finite_in m →
    θ_run (Cert.HyenaInReferenceIdeal.defs (F := Ideal)) (onTc (τ := Cert.HyenaInReferenceIdeal.τ) (Cert.HyenaInReferenceIdeal.main (F := Ideal))) ⟨m, fun _ => 0, g⟩ (fun r => (∀ c : Dev Cert.HyenaInReferenceIdeal.nD,
      r.2.mem ((c.tc : Thread Cert.HyenaInReferenceIdeal.nD Cert.HyenaInReferenceIdeal.τ).loc Cert.HyenaInReferenceIdeal.main_arg0) = m ((c.tc : Thread Cert.HyenaInReferenceIdeal.nD Cert.HyenaInReferenceIdeal.τ).loc Cert.HyenaInReferenceIdeal.main_arg0)
      ∧ r.2.mem ((c.tc : Thread Cert.HyenaInReferenceIdeal.nD Cert.HyenaInReferenceIdeal.τ).loc Cert.HyenaInReferenceIdeal.main_arg1) = m ((c.tc : Thread Cert.HyenaInReferenceIdeal.nD Cert.HyenaInReferenceIdeal.τ).loc Cert.HyenaInReferenceIdeal.main_arg1)
      ∧ r.2.mem ((c.tc : Thread Cert.HyenaInReferenceIdeal.nD Cert.HyenaInReferenceIdeal.τ).loc Cert.HyenaInReferenceIdeal.main_arg2) = m ((c.tc : Thread Cert.HyenaInReferenceIdeal.nD Cert.HyenaInReferenceIdeal.τ).loc Cert.HyenaInReferenceIdeal.main_arg2)
      ∧ r.2.mem ((c.tc : Thread Cert.HyenaInReferenceIdeal.nD Cert.HyenaInReferenceIdeal.τ).loc Cert.HyenaInReferenceIdeal.main_arg3) = m ((c.tc : Thread Cert.HyenaInReferenceIdeal.nD Cert.HyenaInReferenceIdeal.τ).loc Cert.HyenaInReferenceIdeal.main_arg3)
      ∧ r.2.mem ((c.tc : Thread Cert.HyenaInReferenceIdeal.nD Cert.HyenaInReferenceIdeal.τ).loc Cert.HyenaInReferenceIdeal.main_arg4) = m ((c.tc : Thread Cert.HyenaInReferenceIdeal.nD Cert.HyenaInReferenceIdeal.τ).loc Cert.HyenaInReferenceIdeal.main_arg4)
      ∧ r.2.mem ((c.tc : Thread Cert.HyenaInReferenceIdeal.nD Cert.HyenaInReferenceIdeal.τ).loc Cert.HyenaInReferenceIdeal.main_arg5) = m ((c.tc : Thread Cert.HyenaInReferenceIdeal.nD Cert.HyenaInReferenceIdeal.τ).loc Cert.HyenaInReferenceIdeal.main_arg5))
      ∧ r.2.sem = fun _ => 0)

def quiescent_ProjFfn [hProjFfn : Cert.ProjFfn.Facts] : Prop :=
  ∀ (m : (ℓ : Loc Cert.ProjFfn.nD Cert.ProjFfn.τ Cert.ProjFfn.sig) → Buf (Elt Bits) ℓ) (g : Dev Cert.ProjFfn.nD → PrngReg), Pre_ProjFfn m →
    θ_run (Cert.ProjFfn.defs (F := Bits)) (onTc (τ := Cert.ProjFfn.τ) (Cert.ProjFfn.main (F := Bits))) ⟨m, fun _ => 0, g⟩ (fun r => (∀ c : Dev Cert.ProjFfn.nD,
      r.2.mem ((c.tc : Thread Cert.ProjFfn.nD Cert.ProjFfn.τ).loc Cert.ProjFfn.main_arg0) = m ((c.tc : Thread Cert.ProjFfn.nD Cert.ProjFfn.τ).loc Cert.ProjFfn.main_arg0)
      ∧ r.2.mem ((c.tc : Thread Cert.ProjFfn.nD Cert.ProjFfn.τ).loc Cert.ProjFfn.main_arg1) = m ((c.tc : Thread Cert.ProjFfn.nD Cert.ProjFfn.τ).loc Cert.ProjFfn.main_arg1)
      ∧ r.2.mem ((c.tc : Thread Cert.ProjFfn.nD Cert.ProjFfn.τ).loc Cert.ProjFfn.main_arg2) = m ((c.tc : Thread Cert.ProjFfn.nD Cert.ProjFfn.τ).loc Cert.ProjFfn.main_arg2)
      ∧ r.2.mem ((c.tc : Thread Cert.ProjFfn.nD Cert.ProjFfn.τ).loc Cert.ProjFfn.main_arg3) = m ((c.tc : Thread Cert.ProjFfn.nD Cert.ProjFfn.τ).loc Cert.ProjFfn.main_arg3)
      ∧ r.2.mem ((c.tc : Thread Cert.ProjFfn.nD Cert.ProjFfn.τ).loc Cert.ProjFfn.main_arg4) = m ((c.tc : Thread Cert.ProjFfn.nD Cert.ProjFfn.τ).loc Cert.ProjFfn.main_arg4)
      ∧ r.2.mem ((c.tc : Thread Cert.ProjFfn.nD Cert.ProjFfn.τ).loc Cert.ProjFfn.main_arg5) = m ((c.tc : Thread Cert.ProjFfn.nD Cert.ProjFfn.τ).loc Cert.ProjFfn.main_arg5)
      ∧ r.2.mem ((c.tc : Thread Cert.ProjFfn.nD Cert.ProjFfn.τ).loc Cert.ProjFfn.main_arg6) = m ((c.tc : Thread Cert.ProjFfn.nD Cert.ProjFfn.τ).loc Cert.ProjFfn.main_arg6)
      ∧ r.2.mem ((c.tc : Thread Cert.ProjFfn.nD Cert.ProjFfn.τ).loc Cert.ProjFfn.main_arg7) = m ((c.tc : Thread Cert.ProjFfn.nD Cert.ProjFfn.τ).loc Cert.ProjFfn.main_arg7)
      ∧ r.2.mem ((c.tc : Thread Cert.ProjFfn.nD Cert.ProjFfn.τ).loc Cert.ProjFfn.main_arg8) = m ((c.tc : Thread Cert.ProjFfn.nD Cert.ProjFfn.τ).loc Cert.ProjFfn.main_arg8))
      ∧ r.2.sem = fun _ => 0)

def quiescent_ProjFfnIdeal [hProjFfnIdeal : Cert.ProjFfnIdeal.Facts] : Prop :=
  ∀ (m : (ℓ : Loc Cert.ProjFfnIdeal.nD Cert.ProjFfnIdeal.τ Cert.ProjFfnIdeal.sig) → Buf (Elt Ideal) ℓ) (g : Dev Cert.ProjFfnIdeal.nD → PrngReg), Pre_ProjFfnIdeal m →
    θ_run (Cert.ProjFfnIdeal.defs (F := Ideal)) (onTc (τ := Cert.ProjFfnIdeal.τ) (Cert.ProjFfnIdeal.main (F := Ideal))) ⟨m, fun _ => 0, g⟩ (fun r => (∀ c : Dev Cert.ProjFfnIdeal.nD,
      r.2.mem ((c.tc : Thread Cert.ProjFfnIdeal.nD Cert.ProjFfnIdeal.τ).loc Cert.ProjFfnIdeal.main_arg0) = m ((c.tc : Thread Cert.ProjFfnIdeal.nD Cert.ProjFfnIdeal.τ).loc Cert.ProjFfnIdeal.main_arg0)
      ∧ r.2.mem ((c.tc : Thread Cert.ProjFfnIdeal.nD Cert.ProjFfnIdeal.τ).loc Cert.ProjFfnIdeal.main_arg1) = m ((c.tc : Thread Cert.ProjFfnIdeal.nD Cert.ProjFfnIdeal.τ).loc Cert.ProjFfnIdeal.main_arg1)
      ∧ r.2.mem ((c.tc : Thread Cert.ProjFfnIdeal.nD Cert.ProjFfnIdeal.τ).loc Cert.ProjFfnIdeal.main_arg2) = m ((c.tc : Thread Cert.ProjFfnIdeal.nD Cert.ProjFfnIdeal.τ).loc Cert.ProjFfnIdeal.main_arg2)
      ∧ r.2.mem ((c.tc : Thread Cert.ProjFfnIdeal.nD Cert.ProjFfnIdeal.τ).loc Cert.ProjFfnIdeal.main_arg3) = m ((c.tc : Thread Cert.ProjFfnIdeal.nD Cert.ProjFfnIdeal.τ).loc Cert.ProjFfnIdeal.main_arg3)
      ∧ r.2.mem ((c.tc : Thread Cert.ProjFfnIdeal.nD Cert.ProjFfnIdeal.τ).loc Cert.ProjFfnIdeal.main_arg4) = m ((c.tc : Thread Cert.ProjFfnIdeal.nD Cert.ProjFfnIdeal.τ).loc Cert.ProjFfnIdeal.main_arg4)
      ∧ r.2.mem ((c.tc : Thread Cert.ProjFfnIdeal.nD Cert.ProjFfnIdeal.τ).loc Cert.ProjFfnIdeal.main_arg5) = m ((c.tc : Thread Cert.ProjFfnIdeal.nD Cert.ProjFfnIdeal.τ).loc Cert.ProjFfnIdeal.main_arg5)
      ∧ r.2.mem ((c.tc : Thread Cert.ProjFfnIdeal.nD Cert.ProjFfnIdeal.τ).loc Cert.ProjFfnIdeal.main_arg6) = m ((c.tc : Thread Cert.ProjFfnIdeal.nD Cert.ProjFfnIdeal.τ).loc Cert.ProjFfnIdeal.main_arg6)
      ∧ r.2.mem ((c.tc : Thread Cert.ProjFfnIdeal.nD Cert.ProjFfnIdeal.τ).loc Cert.ProjFfnIdeal.main_arg7) = m ((c.tc : Thread Cert.ProjFfnIdeal.nD Cert.ProjFfnIdeal.τ).loc Cert.ProjFfnIdeal.main_arg7)
      ∧ r.2.mem ((c.tc : Thread Cert.ProjFfnIdeal.nD Cert.ProjFfnIdeal.τ).loc Cert.ProjFfnIdeal.main_arg8) = m ((c.tc : Thread Cert.ProjFfnIdeal.nD Cert.ProjFfnIdeal.τ).loc Cert.ProjFfnIdeal.main_arg8))
      ∧ r.2.sem = fun _ => 0)

def quiescent_ProjFfnReferenceIdeal [hProjFfnReferenceIdeal : Cert.ProjFfnReferenceIdeal.Facts] : Prop :=
  ∀ (m : (ℓ : Loc Cert.ProjFfnReferenceIdeal.nD Cert.ProjFfnReferenceIdeal.τ Cert.ProjFfnReferenceIdeal.sig) → Buf (Elt Ideal) ℓ) (g : Dev Cert.ProjFfnReferenceIdeal.nD → PrngReg), Pre_ProjFfnReferenceIdeal m →
    θ_run (Cert.ProjFfnReferenceIdeal.defs (F := Ideal)) (onTc (τ := Cert.ProjFfnReferenceIdeal.τ) (Cert.ProjFfnReferenceIdeal.main (F := Ideal))) ⟨m, fun _ => 0, g⟩ (fun r => (∀ c : Dev Cert.ProjFfnReferenceIdeal.nD,
      r.2.mem ((c.tc : Thread Cert.ProjFfnReferenceIdeal.nD Cert.ProjFfnReferenceIdeal.τ).loc Cert.ProjFfnReferenceIdeal.main_arg0) = m ((c.tc : Thread Cert.ProjFfnReferenceIdeal.nD Cert.ProjFfnReferenceIdeal.τ).loc Cert.ProjFfnReferenceIdeal.main_arg0)
      ∧ r.2.mem ((c.tc : Thread Cert.ProjFfnReferenceIdeal.nD Cert.ProjFfnReferenceIdeal.τ).loc Cert.ProjFfnReferenceIdeal.main_arg1) = m ((c.tc : Thread Cert.ProjFfnReferenceIdeal.nD Cert.ProjFfnReferenceIdeal.τ).loc Cert.ProjFfnReferenceIdeal.main_arg1)
      ∧ r.2.mem ((c.tc : Thread Cert.ProjFfnReferenceIdeal.nD Cert.ProjFfnReferenceIdeal.τ).loc Cert.ProjFfnReferenceIdeal.main_arg2) = m ((c.tc : Thread Cert.ProjFfnReferenceIdeal.nD Cert.ProjFfnReferenceIdeal.τ).loc Cert.ProjFfnReferenceIdeal.main_arg2)
      ∧ r.2.mem ((c.tc : Thread Cert.ProjFfnReferenceIdeal.nD Cert.ProjFfnReferenceIdeal.τ).loc Cert.ProjFfnReferenceIdeal.main_arg3) = m ((c.tc : Thread Cert.ProjFfnReferenceIdeal.nD Cert.ProjFfnReferenceIdeal.τ).loc Cert.ProjFfnReferenceIdeal.main_arg3)
      ∧ r.2.mem ((c.tc : Thread Cert.ProjFfnReferenceIdeal.nD Cert.ProjFfnReferenceIdeal.τ).loc Cert.ProjFfnReferenceIdeal.main_arg4) = m ((c.tc : Thread Cert.ProjFfnReferenceIdeal.nD Cert.ProjFfnReferenceIdeal.τ).loc Cert.ProjFfnReferenceIdeal.main_arg4)
      ∧ r.2.mem ((c.tc : Thread Cert.ProjFfnReferenceIdeal.nD Cert.ProjFfnReferenceIdeal.τ).loc Cert.ProjFfnReferenceIdeal.main_arg5) = m ((c.tc : Thread Cert.ProjFfnReferenceIdeal.nD Cert.ProjFfnReferenceIdeal.τ).loc Cert.ProjFfnReferenceIdeal.main_arg5)
      ∧ r.2.mem ((c.tc : Thread Cert.ProjFfnReferenceIdeal.nD Cert.ProjFfnReferenceIdeal.τ).loc Cert.ProjFfnReferenceIdeal.main_arg6) = m ((c.tc : Thread Cert.ProjFfnReferenceIdeal.nD Cert.ProjFfnReferenceIdeal.τ).loc Cert.ProjFfnReferenceIdeal.main_arg6)
      ∧ r.2.mem ((c.tc : Thread Cert.ProjFfnReferenceIdeal.nD Cert.ProjFfnReferenceIdeal.τ).loc Cert.ProjFfnReferenceIdeal.main_arg7) = m ((c.tc : Thread Cert.ProjFfnReferenceIdeal.nD Cert.ProjFfnReferenceIdeal.τ).loc Cert.ProjFfnReferenceIdeal.main_arg7)
      ∧ r.2.mem ((c.tc : Thread Cert.ProjFfnReferenceIdeal.nD Cert.ProjFfnReferenceIdeal.τ).loc Cert.ProjFfnReferenceIdeal.main_arg8) = m ((c.tc : Thread Cert.ProjFfnReferenceIdeal.nD Cert.ProjFfnReferenceIdeal.τ).loc Cert.ProjFfnReferenceIdeal.main_arg8))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_HyenaIn_HyenaInIdeal : Prop :=
  True

def algebraic_HyenaInIdeal_HyenaInReferenceIdeal_pre_finite_in [hHyenaInIdeal : Cert.HyenaInIdeal.Facts] [hHyenaInReferenceIdeal : Cert.HyenaInReferenceIdeal.Facts] [hPre_finite_in : Cert.Pre_finite_in.Facts] : Prop :=
  ∀ (m : (ℓ : Loc Cert.HyenaInIdeal.nD Cert.HyenaInIdeal.τ Cert.HyenaInIdeal.sig) → Buf (Elt Ideal) ℓ) (g : Dev Cert.HyenaInIdeal.nD → PrngReg)
    (m' : (ℓ : Loc Cert.HyenaInReferenceIdeal.nD Cert.HyenaInReferenceIdeal.τ Cert.HyenaInReferenceIdeal.sig) → Buf (Elt Ideal) ℓ) (g' : Dev Cert.HyenaInReferenceIdeal.nD → PrngReg), Pre_HyenaInIdeal_finite_in m →
    (∀ c : Dev Cert.HyenaInIdeal.nD,
      m' ((c.tc : Thread Cert.HyenaInReferenceIdeal.nD Cert.HyenaInReferenceIdeal.τ).loc Cert.HyenaInReferenceIdeal.main_arg0) = m ((c.tc : Thread Cert.HyenaInIdeal.nD Cert.HyenaInIdeal.τ).loc Cert.HyenaInIdeal.main_arg0)
      ∧ m' ((c.tc : Thread Cert.HyenaInReferenceIdeal.nD Cert.HyenaInReferenceIdeal.τ).loc Cert.HyenaInReferenceIdeal.main_arg1) = m ((c.tc : Thread Cert.HyenaInIdeal.nD Cert.HyenaInIdeal.τ).loc Cert.HyenaInIdeal.main_arg1)
      ∧ m' ((c.tc : Thread Cert.HyenaInReferenceIdeal.nD Cert.HyenaInReferenceIdeal.τ).loc Cert.HyenaInReferenceIdeal.main_arg2) = m ((c.tc : Thread Cert.HyenaInIdeal.nD Cert.HyenaInIdeal.τ).loc Cert.HyenaInIdeal.main_arg2)
      ∧ m' ((c.tc : Thread Cert.HyenaInReferenceIdeal.nD Cert.HyenaInReferenceIdeal.τ).loc Cert.HyenaInReferenceIdeal.main_arg3) = m ((c.tc : Thread Cert.HyenaInIdeal.nD Cert.HyenaInIdeal.τ).loc Cert.HyenaInIdeal.main_arg3)
      ∧ m' ((c.tc : Thread Cert.HyenaInReferenceIdeal.nD Cert.HyenaInReferenceIdeal.τ).loc Cert.HyenaInReferenceIdeal.main_arg4) = m ((c.tc : Thread Cert.HyenaInIdeal.nD Cert.HyenaInIdeal.τ).loc Cert.HyenaInIdeal.main_arg4)
      ∧ m' ((c.tc : Thread Cert.HyenaInReferenceIdeal.nD Cert.HyenaInReferenceIdeal.τ).loc Cert.HyenaInReferenceIdeal.main_arg5) = m ((c.tc : Thread Cert.HyenaInIdeal.nD Cert.HyenaInIdeal.τ).loc Cert.HyenaInIdeal.main_arg5)) →
    ∃ (v0 : (c : Dev Cert.HyenaInIdeal.nD) → Buf (Elt Ideal) ((c.tc : Thread Cert.HyenaInIdeal.nD Cert.HyenaInIdeal.τ).loc Cert.HyenaInIdeal.main_v7)) (v1 : (c : Dev Cert.HyenaInIdeal.nD) → Buf (Elt Ideal) ((c.tc : Thread Cert.HyenaInIdeal.nD Cert.HyenaInIdeal.τ).loc Cert.HyenaInIdeal.main_v8)),
      θ_run (Cert.HyenaInIdeal.defs (F := Ideal)) (onTc (τ := Cert.HyenaInIdeal.τ) (Cert.HyenaInIdeal.main (F := Ideal))) ⟨m, fun _ => 0, g⟩ (fun r => ∀ c : Dev Cert.HyenaInIdeal.nD,
          r.2.mem ((c.tc : Thread Cert.HyenaInIdeal.nD Cert.HyenaInIdeal.τ).loc Cert.HyenaInIdeal.main_v7) = v0 c
          ∧ r.2.mem ((c.tc : Thread Cert.HyenaInIdeal.nD Cert.HyenaInIdeal.τ).loc Cert.HyenaInIdeal.main_v8) = v1 c
          ∧ r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
          ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1)
          ∧ r.2.mem ((c.tc : Thread Cert.HyenaInIdeal.nD Cert.HyenaInIdeal.τ).loc Cert.HyenaInIdeal.main_arg2) = m ((c.tc : Thread Cert.HyenaInIdeal.nD Cert.HyenaInIdeal.τ).loc Cert.HyenaInIdeal.main_arg2)
          ∧ r.2.mem ((c.tc : Thread Cert.HyenaInIdeal.nD Cert.HyenaInIdeal.τ).loc Cert.HyenaInIdeal.main_arg3) = m ((c.tc : Thread Cert.HyenaInIdeal.nD Cert.HyenaInIdeal.τ).loc Cert.HyenaInIdeal.main_arg3)
          ∧ r.2.mem ((c.tc : Thread Cert.HyenaInIdeal.nD Cert.HyenaInIdeal.τ).loc Cert.HyenaInIdeal.main_arg4) = m ((c.tc : Thread Cert.HyenaInIdeal.nD Cert.HyenaInIdeal.τ).loc Cert.HyenaInIdeal.main_arg4)
          ∧ r.2.mem ((c.tc : Thread Cert.HyenaInIdeal.nD Cert.HyenaInIdeal.τ).loc Cert.HyenaInIdeal.main_arg5) = m ((c.tc : Thread Cert.HyenaInIdeal.nD Cert.HyenaInIdeal.τ).loc Cert.HyenaInIdeal.main_arg5))
      ∧ θ_run (Cert.HyenaInReferenceIdeal.defs (F := Ideal)) (onTc (τ := Cert.HyenaInReferenceIdeal.τ) (Cert.HyenaInReferenceIdeal.main (F := Ideal))) ⟨m', fun _ => 0, g'⟩ (fun r => ∀ c : Dev Cert.HyenaInReferenceIdeal.nD,
          r.2.mem ((c.tc : Thread Cert.HyenaInReferenceIdeal.nD Cert.HyenaInReferenceIdeal.τ).loc Cert.HyenaInReferenceIdeal.main_v44) = v0 c
          ∧ r.2.mem ((c.tc : Thread Cert.HyenaInReferenceIdeal.nD Cert.HyenaInReferenceIdeal.τ).loc Cert.HyenaInReferenceIdeal.main_v41) = v1 c
          ∧ r.2.mem ((c.tc : Thread Cert.HyenaInReferenceIdeal.nD Cert.HyenaInReferenceIdeal.τ).loc Cert.HyenaInReferenceIdeal.main_arg0) = m' ((c.tc : Thread Cert.HyenaInReferenceIdeal.nD Cert.HyenaInReferenceIdeal.τ).loc Cert.HyenaInReferenceIdeal.main_arg0)
          ∧ r.2.mem ((c.tc : Thread Cert.HyenaInReferenceIdeal.nD Cert.HyenaInReferenceIdeal.τ).loc Cert.HyenaInReferenceIdeal.main_arg1) = m' ((c.tc : Thread Cert.HyenaInReferenceIdeal.nD Cert.HyenaInReferenceIdeal.τ).loc Cert.HyenaInReferenceIdeal.main_arg1)
          ∧ r.2.mem ((c.tc : Thread Cert.HyenaInReferenceIdeal.nD Cert.HyenaInReferenceIdeal.τ).loc Cert.HyenaInReferenceIdeal.main_arg2) = m' ((c.tc : Thread Cert.HyenaInReferenceIdeal.nD Cert.HyenaInReferenceIdeal.τ).loc Cert.HyenaInReferenceIdeal.main_arg2)
          ∧ r.2.mem ((c.tc : Thread Cert.HyenaInReferenceIdeal.nD Cert.HyenaInReferenceIdeal.τ).loc Cert.HyenaInReferenceIdeal.main_arg3) = m' ((c.tc : Thread Cert.HyenaInReferenceIdeal.nD Cert.HyenaInReferenceIdeal.τ).loc Cert.HyenaInReferenceIdeal.main_arg3)
          ∧ r.2.mem ((c.tc : Thread Cert.HyenaInReferenceIdeal.nD Cert.HyenaInReferenceIdeal.τ).loc Cert.HyenaInReferenceIdeal.main_arg4) = m' ((c.tc : Thread Cert.HyenaInReferenceIdeal.nD Cert.HyenaInReferenceIdeal.τ).loc Cert.HyenaInReferenceIdeal.main_arg4)
          ∧ r.2.mem ((c.tc : Thread Cert.HyenaInReferenceIdeal.nD Cert.HyenaInReferenceIdeal.τ).loc Cert.HyenaInReferenceIdeal.main_arg5) = m' ((c.tc : Thread Cert.HyenaInReferenceIdeal.nD Cert.HyenaInReferenceIdeal.τ).loc Cert.HyenaInReferenceIdeal.main_arg5))

def preserves_ProjFfn_ProjFfnIdeal : Prop :=
  True

def algebraic_ProjFfnIdeal_ProjFfnReferenceIdeal [hProjFfnIdeal : Cert.ProjFfnIdeal.Facts] [hProjFfnReferenceIdeal : Cert.ProjFfnReferenceIdeal.Facts] : Prop :=
  ∀ (m : (ℓ : Loc Cert.ProjFfnIdeal.nD Cert.ProjFfnIdeal.τ Cert.ProjFfnIdeal.sig) → Buf (Elt Ideal) ℓ) (g : Dev Cert.ProjFfnIdeal.nD → PrngReg)
    (m' : (ℓ : Loc Cert.ProjFfnReferenceIdeal.nD Cert.ProjFfnReferenceIdeal.τ Cert.ProjFfnReferenceIdeal.sig) → Buf (Elt Ideal) ℓ) (g' : Dev Cert.ProjFfnReferenceIdeal.nD → PrngReg), Pre_ProjFfnIdeal m →
    (∀ c : Dev Cert.ProjFfnIdeal.nD,
      m' ((c.tc : Thread Cert.ProjFfnReferenceIdeal.nD Cert.ProjFfnReferenceIdeal.τ).loc Cert.ProjFfnReferenceIdeal.main_arg0) = m ((c.tc : Thread Cert.ProjFfnIdeal.nD Cert.ProjFfnIdeal.τ).loc Cert.ProjFfnIdeal.main_arg0)
      ∧ m' ((c.tc : Thread Cert.ProjFfnReferenceIdeal.nD Cert.ProjFfnReferenceIdeal.τ).loc Cert.ProjFfnReferenceIdeal.main_arg1) = m ((c.tc : Thread Cert.ProjFfnIdeal.nD Cert.ProjFfnIdeal.τ).loc Cert.ProjFfnIdeal.main_arg1)
      ∧ m' ((c.tc : Thread Cert.ProjFfnReferenceIdeal.nD Cert.ProjFfnReferenceIdeal.τ).loc Cert.ProjFfnReferenceIdeal.main_arg2) = m ((c.tc : Thread Cert.ProjFfnIdeal.nD Cert.ProjFfnIdeal.τ).loc Cert.ProjFfnIdeal.main_arg2)
      ∧ m' ((c.tc : Thread Cert.ProjFfnReferenceIdeal.nD Cert.ProjFfnReferenceIdeal.τ).loc Cert.ProjFfnReferenceIdeal.main_arg3) = m ((c.tc : Thread Cert.ProjFfnIdeal.nD Cert.ProjFfnIdeal.τ).loc Cert.ProjFfnIdeal.main_arg3)
      ∧ m' ((c.tc : Thread Cert.ProjFfnReferenceIdeal.nD Cert.ProjFfnReferenceIdeal.τ).loc Cert.ProjFfnReferenceIdeal.main_arg4) = m ((c.tc : Thread Cert.ProjFfnIdeal.nD Cert.ProjFfnIdeal.τ).loc Cert.ProjFfnIdeal.main_arg4)
      ∧ m' ((c.tc : Thread Cert.ProjFfnReferenceIdeal.nD Cert.ProjFfnReferenceIdeal.τ).loc Cert.ProjFfnReferenceIdeal.main_arg5) = m ((c.tc : Thread Cert.ProjFfnIdeal.nD Cert.ProjFfnIdeal.τ).loc Cert.ProjFfnIdeal.main_arg5)
      ∧ m' ((c.tc : Thread Cert.ProjFfnReferenceIdeal.nD Cert.ProjFfnReferenceIdeal.τ).loc Cert.ProjFfnReferenceIdeal.main_arg6) = m ((c.tc : Thread Cert.ProjFfnIdeal.nD Cert.ProjFfnIdeal.τ).loc Cert.ProjFfnIdeal.main_arg6)
      ∧ m' ((c.tc : Thread Cert.ProjFfnReferenceIdeal.nD Cert.ProjFfnReferenceIdeal.τ).loc Cert.ProjFfnReferenceIdeal.main_arg7) = m ((c.tc : Thread Cert.ProjFfnIdeal.nD Cert.ProjFfnIdeal.τ).loc Cert.ProjFfnIdeal.main_arg7)
      ∧ m' ((c.tc : Thread Cert.ProjFfnReferenceIdeal.nD Cert.ProjFfnReferenceIdeal.τ).loc Cert.ProjFfnReferenceIdeal.main_arg8) = m ((c.tc : Thread Cert.ProjFfnIdeal.nD Cert.ProjFfnIdeal.τ).loc Cert.ProjFfnIdeal.main_arg8)) →
    ∃ (v0 : (c : Dev Cert.ProjFfnIdeal.nD) → Buf (Elt Ideal) ((c.tc : Thread Cert.ProjFfnIdeal.nD Cert.ProjFfnIdeal.τ).loc Cert.ProjFfnIdeal.main_v10)),
      θ_run (Cert.ProjFfnIdeal.defs (F := Ideal)) (onTc (τ := Cert.ProjFfnIdeal.τ) (Cert.ProjFfnIdeal.main (F := Ideal))) ⟨m, fun _ => 0, g⟩ (fun r => ∀ c : Dev Cert.ProjFfnIdeal.nD,
          r.2.mem ((c.tc : Thread Cert.ProjFfnIdeal.nD Cert.ProjFfnIdeal.τ).loc Cert.ProjFfnIdeal.main_v10) = v0 c
          ∧ r.2.mem ((c.tc : Thread Cert.ProjFfnIdeal.nD Cert.ProjFfnIdeal.τ).loc Cert.ProjFfnIdeal.main_arg0) = m ((c.tc : Thread Cert.ProjFfnIdeal.nD Cert.ProjFfnIdeal.τ).loc Cert.ProjFfnIdeal.main_arg0)
          ∧ r.2.mem ((c.tc : Thread Cert.ProjFfnIdeal.nD Cert.ProjFfnIdeal.τ).loc Cert.ProjFfnIdeal.main_arg1) = m ((c.tc : Thread Cert.ProjFfnIdeal.nD Cert.ProjFfnIdeal.τ).loc Cert.ProjFfnIdeal.main_arg1)
          ∧ r.2.mem ((c.tc : Thread Cert.ProjFfnIdeal.nD Cert.ProjFfnIdeal.τ).loc Cert.ProjFfnIdeal.main_arg2) = m ((c.tc : Thread Cert.ProjFfnIdeal.nD Cert.ProjFfnIdeal.τ).loc Cert.ProjFfnIdeal.main_arg2)
          ∧ r.2.mem ((c.tc : Thread Cert.ProjFfnIdeal.nD Cert.ProjFfnIdeal.τ).loc Cert.ProjFfnIdeal.main_arg3) = m ((c.tc : Thread Cert.ProjFfnIdeal.nD Cert.ProjFfnIdeal.τ).loc Cert.ProjFfnIdeal.main_arg3)
          ∧ r.2.mem ((c.tc : Thread Cert.ProjFfnIdeal.nD Cert.ProjFfnIdeal.τ).loc Cert.ProjFfnIdeal.main_arg4) = m ((c.tc : Thread Cert.ProjFfnIdeal.nD Cert.ProjFfnIdeal.τ).loc Cert.ProjFfnIdeal.main_arg4)
          ∧ r.2.mem ((c.tc : Thread Cert.ProjFfnIdeal.nD Cert.ProjFfnIdeal.τ).loc Cert.ProjFfnIdeal.main_arg5) = m ((c.tc : Thread Cert.ProjFfnIdeal.nD Cert.ProjFfnIdeal.τ).loc Cert.ProjFfnIdeal.main_arg5)
          ∧ r.2.mem ((c.tc : Thread Cert.ProjFfnIdeal.nD Cert.ProjFfnIdeal.τ).loc Cert.ProjFfnIdeal.main_arg6) = m ((c.tc : Thread Cert.ProjFfnIdeal.nD Cert.ProjFfnIdeal.τ).loc Cert.ProjFfnIdeal.main_arg6)
          ∧ r.2.mem ((c.tc : Thread Cert.ProjFfnIdeal.nD Cert.ProjFfnIdeal.τ).loc Cert.ProjFfnIdeal.main_arg7) = m ((c.tc : Thread Cert.ProjFfnIdeal.nD Cert.ProjFfnIdeal.τ).loc Cert.ProjFfnIdeal.main_arg7)
          ∧ r.2.mem ((c.tc : Thread Cert.ProjFfnIdeal.nD Cert.ProjFfnIdeal.τ).loc Cert.ProjFfnIdeal.main_arg8) = m ((c.tc : Thread Cert.ProjFfnIdeal.nD Cert.ProjFfnIdeal.τ).loc Cert.ProjFfnIdeal.main_arg8))
      ∧ θ_run (Cert.ProjFfnReferenceIdeal.defs (F := Ideal)) (onTc (τ := Cert.ProjFfnReferenceIdeal.τ) (Cert.ProjFfnReferenceIdeal.main (F := Ideal))) ⟨m', fun _ => 0, g'⟩ (fun r => ∀ c : Dev Cert.ProjFfnReferenceIdeal.nD,
          r.2.mem ((c.tc : Thread Cert.ProjFfnReferenceIdeal.nD Cert.ProjFfnReferenceIdeal.τ).loc Cert.ProjFfnReferenceIdeal.main_v24) = v0 c
          ∧ r.2.mem ((c.tc : Thread Cert.ProjFfnReferenceIdeal.nD Cert.ProjFfnReferenceIdeal.τ).loc Cert.ProjFfnReferenceIdeal.main_arg0) = m' ((c.tc : Thread Cert.ProjFfnReferenceIdeal.nD Cert.ProjFfnReferenceIdeal.τ).loc Cert.ProjFfnReferenceIdeal.main_arg0)
          ∧ r.2.mem ((c.tc : Thread Cert.ProjFfnReferenceIdeal.nD Cert.ProjFfnReferenceIdeal.τ).loc Cert.ProjFfnReferenceIdeal.main_arg1) = m' ((c.tc : Thread Cert.ProjFfnReferenceIdeal.nD Cert.ProjFfnReferenceIdeal.τ).loc Cert.ProjFfnReferenceIdeal.main_arg1)
          ∧ r.2.mem ((c.tc : Thread Cert.ProjFfnReferenceIdeal.nD Cert.ProjFfnReferenceIdeal.τ).loc Cert.ProjFfnReferenceIdeal.main_arg2) = m' ((c.tc : Thread Cert.ProjFfnReferenceIdeal.nD Cert.ProjFfnReferenceIdeal.τ).loc Cert.ProjFfnReferenceIdeal.main_arg2)
          ∧ r.2.mem ((c.tc : Thread Cert.ProjFfnReferenceIdeal.nD Cert.ProjFfnReferenceIdeal.τ).loc Cert.ProjFfnReferenceIdeal.main_arg3) = m' ((c.tc : Thread Cert.ProjFfnReferenceIdeal.nD Cert.ProjFfnReferenceIdeal.τ).loc Cert.ProjFfnReferenceIdeal.main_arg3)
          ∧ r.2.mem ((c.tc : Thread Cert.ProjFfnReferenceIdeal.nD Cert.ProjFfnReferenceIdeal.τ).loc Cert.ProjFfnReferenceIdeal.main_arg4) = m' ((c.tc : Thread Cert.ProjFfnReferenceIdeal.nD Cert.ProjFfnReferenceIdeal.τ).loc Cert.ProjFfnReferenceIdeal.main_arg4)
          ∧ r.2.mem ((c.tc : Thread Cert.ProjFfnReferenceIdeal.nD Cert.ProjFfnReferenceIdeal.τ).loc Cert.ProjFfnReferenceIdeal.main_arg5) = m' ((c.tc : Thread Cert.ProjFfnReferenceIdeal.nD Cert.ProjFfnReferenceIdeal.τ).loc Cert.ProjFfnReferenceIdeal.main_arg5)
          ∧ r.2.mem ((c.tc : Thread Cert.ProjFfnReferenceIdeal.nD Cert.ProjFfnReferenceIdeal.τ).loc Cert.ProjFfnReferenceIdeal.main_arg6) = m' ((c.tc : Thread Cert.ProjFfnReferenceIdeal.nD Cert.ProjFfnReferenceIdeal.τ).loc Cert.ProjFfnReferenceIdeal.main_arg6)
          ∧ r.2.mem ((c.tc : Thread Cert.ProjFfnReferenceIdeal.nD Cert.ProjFfnReferenceIdeal.τ).loc Cert.ProjFfnReferenceIdeal.main_arg7) = m' ((c.tc : Thread Cert.ProjFfnReferenceIdeal.nD Cert.ProjFfnReferenceIdeal.τ).loc Cert.ProjFfnReferenceIdeal.main_arg7)
          ∧ r.2.mem ((c.tc : Thread Cert.ProjFfnReferenceIdeal.nD Cert.ProjFfnReferenceIdeal.τ).loc Cert.ProjFfnReferenceIdeal.main_arg8) = m' ((c.tc : Thread Cert.ProjFfnReferenceIdeal.nD Cert.ProjFfnReferenceIdeal.τ).loc Cert.ProjFfnReferenceIdeal.main_arg8))

def Claim : Prop :=
  ∃ (hKernel : Cert.Kernel.Facts) (hKernelIdeal : Cert.KernelIdeal.Facts) (hReferenceIdeal : Cert.ReferenceIdeal.Facts) (hHyenaIn : Cert.HyenaIn.Facts) (hHyenaInIdeal : Cert.HyenaInIdeal.Facts) (hHyenaInReferenceIdeal : Cert.HyenaInReferenceIdeal.Facts) (hProjFfn : Cert.ProjFfn.Facts) (hProjFfnIdeal : Cert.ProjFfnIdeal.Facts) (hProjFfnReferenceIdeal : Cert.ProjFfnReferenceIdeal.Facts) (hPre_finite : Cert.Pre_finite.Facts) (hPre_finite_in : Cert.Pre_finite_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_HyenaIn (hHyenaIn := hHyenaIn)
    ∧ quiescent_HyenaInIdeal (hHyenaInIdeal := hHyenaInIdeal)
    ∧ quiescent_HyenaInIdeal_pre_finite_in (hHyenaInIdeal := hHyenaInIdeal) (hPre_finite_in := hPre_finite_in)
    ∧ quiescent_HyenaInReferenceIdeal (hHyenaInReferenceIdeal := hHyenaInReferenceIdeal)
    ∧ quiescent_HyenaInReferenceIdeal_pre_finite_in (hHyenaInReferenceIdeal := hHyenaInReferenceIdeal) (hPre_finite_in := hPre_finite_in)
    ∧ quiescent_ProjFfn (hProjFfn := hProjFfn)
    ∧ quiescent_ProjFfnIdeal (hProjFfnIdeal := hProjFfnIdeal)
    ∧ quiescent_ProjFfnReferenceIdeal (hProjFfnReferenceIdeal := hProjFfnReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_HyenaIn_HyenaInIdeal
    ∧ algebraic_HyenaInIdeal_HyenaInReferenceIdeal_pre_finite_in (hHyenaInIdeal := hHyenaInIdeal) (hHyenaInReferenceIdeal := hHyenaInReferenceIdeal) (hPre_finite_in := hPre_finite_in)
    ∧ preserves_ProjFfn_ProjFfnIdeal
    ∧ algebraic_ProjFfnIdeal_ProjFfnReferenceIdeal (hProjFfnIdeal := hProjFfnIdeal) (hProjFfnReferenceIdeal := hProjFfnReferenceIdeal)
-- ==== Pre_finite.lean ====
abbrev S2x16384x1024 : Shape := ⟨3, ![2, 16384, 1024]⟩
abbrev S1024 : Shape := ⟨1, ![1024]⟩
abbrev S1024x3072 : Shape := ⟨2, ![1024, 3072]⟩
abbrev S3072 : Shape := ⟨1, ![3072]⟩
abbrev S16x15x31 : Shape := ⟨3, ![16, 15, 31]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S16x15x31 : S_.BroadcastsInDim S16x15x31 (![] : Fin 0 → Fin S16x15x31.rank)
  reducesTo_S16x15x31_S_d0_1_2 : S16x15x31.ReducesTo [0, 1, 2] S_

variable [Facts]

def fn_part1 {F : FTy → Type} [FloatOps F] (main_v13 : IVec S_ 1) (main_v16 : IVec S16x15x31 1) : IVec S_ 1 :=
  let main_c_5 : IVec S_ 1 := constantI S_ 1 1#1
  let main_v17 : IVec S_ 1 := (fun x v => Host.reduce IntOp.andi x v reducesTo_S16x15x31_S_d0_1_2 h_S_) main_v16 main_c_5
  let main_v18 : IVec S_ 1 := andi main_v13 main_v17
  main_v18

def fn {F : FTy → Type} [FloatOps F] (main_arg0 : FVec F S2x16384x1024 .f32) (main_arg1 : FVec F S1024 .f32) (main_arg2 : FVec F S1024 .f32) (main_arg3 : FVec F S1024 .f32) (main_arg4 : FVec F S1024x3072 .f32) (main_arg5 : FVec F S3072 .f32) (main_arg6 : FVec F S16x15x31 .f32) (main_arg7 : FVec F S1024x1024 .f32) (main_arg8 : FVec F S1024 .f32) (main_arg9 : FVec F S1024x2816 .f32) (main_arg10 : FVec F S1024x2816 .f32) (main_arg11 : FVec F S2816x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3072 .f32 := Host.absf main_arg4
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg5
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S16x15x31 .f32 := Host.absf main_arg6
  let main_cst_4 : FVec F S_ .f32 := constant S_ .f32 0x7F800000#32
  let main_v15 : FVec F S16x15x31 .f32 := broadcastInDim S16x15x31 ![] bcast_S_S16x15x31 main_cst_4
  let main_v16 : IVec S16x15x31 1 := cmpf .olt main_v14 main_v15
  fn_part1 (F := F) main_v13 main_v16
-- ==== Pre_finite_in.lean ====
abbrev S2x16384x1024 : Shape := ⟨3, ![2, 16384, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S_ : Shape := ⟨0, ![]⟩

class Facts : Prop where
  bcast_S_S3072 : S_.BroadcastsInDim S3072 (![] : Fin 0 → Fin S3072.rank)
  reducesTo_S3072_S_d0 : S3072.ReducesTo [0] S_
  h_S_ : 0 < S_.numel
  bcast_S_S3x3072 : S_.BroadcastsInDim S3x3072 (![] : Fin 0 → Fin S3x3072.rank)
  reducesTo_S3x3072_S_d0_1 : S3x3072.ReducesTo [0, 1] S_

variable [Facts]

def fn {F : FTy → Type} [FloatOps F] (main_arg0 : FVec F S2x16384x1024 .f32) (main_arg1 : FVec F S1024 .f32) (main_arg2 : FVec F S1024x3072 .f32) (main_arg3 : FVec F S3072 .f32) (main_arg4 : FVec F S3x3072 .f32) (main_arg5 : FVec F S3072 .f32) : IVec S_ 1 :=
  let main_v0 : FVec F S3072 .f32 := Host.absf main_arg3
  let main_cst : FVec F S_ .f32 := constant S_ .f32 0x7F800000#32
  let main_v1 : FVec F S3072 .f32 := broadcastInDim S3072 ![] bcast_S_S3072 main_cst
  let main_v2 : IVec S3072 1 := cmpf .olt main_v0 main_v1
  let main_c : IVec S_ 1 := constantI S_ 1 1#1
  let main_v3 : IVec S_ 1 := (fun x v => Host.reduce IntOp.andi x v reducesTo_S3072_S_d0 h_S_) main_v2 main_c
  let main_v4 : FVec F S3x3072 .f32 := Host.absf main_arg4
  let main_cst_0 : FVec F S_ .f32 := constant S_ .f32 0x7F800000#32
  let main_v5 : FVec F S3x3072 .f32 := broadcastInDim S3x3072 ![] bcast_S_S3x3072 main_cst_0
  let main_v6 : IVec S3x3072 1 := cmpf .olt main_v4 main_v5
  let main_c_1 : IVec S_ 1 := constantI S_ 1 1#1
  let main_v7 : IVec S_ 1 := (fun x v => Host.reduce IntOp.andi x v reducesTo_S3x3072_S_d0_1 h_S_) main_v6 main_c_1
  let main_v8 : IVec S_ 1 := andi main_v3 main_v7
  main_v8
-- ==== Kernel.lean ====
abbrev S2x16384x1024 : Shape := ⟨3, ![2, 16384, 1024]⟩
abbrev S1024 : Shape := ⟨1, ![1024]⟩
abbrev S1024x3072 : Shape := ⟨2, ![1024, 3072]⟩
abbrev S3072 : Shape := ⟨1, ![3072]⟩
abbrev S16x15x31 : Shape := ⟨3, ![16, 15, 31]⟩
abbrev S1024x1024 : Shape := ⟨2, ![1024, 1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S1x3072 : Shape := ⟨2, ![1, 3072]⟩
abbrev S1024x1 : Shape := ⟨2, ![1024, 1]⟩
abbrev S_ : Shape := ⟨0, ![]⟩
abbrev S16x17x64 : Shape := ⟨3, ![16, 17, 64]⟩
abbrev S16x16x64 : Shape := ⟨3, ![16, 16, 64]⟩
abbrev S16x16x128 : Shape := ⟨3, ![16, 16, 128]⟩
abbrev S3x16x256x768 : Shape := ⟨4, ![3, 16, 256, 768]⟩
abbrev S1x16x128 : Shape := ⟨3, ![1, 16, 128]⟩
abbrev S3x1x256x768 : Shape := ⟨4, ![3, 1, 256, 768]⟩
abbrev S64x128 : Shape := ⟨2, ![64, 128]⟩
abbrev S1x1x128 : Shape := ⟨3, ![1, 1, 128]⟩
abbrev S1x128 : Shape := ⟨2, ![1, 128]⟩
abbrev S1x1x64x128 : Shape := ⟨4, ![1, 1, 64, 128]⟩
abbrev S2x64x256x1024 : Shape := ⟨4, ![2, 64, 256, 1024]⟩
abbrev S3x8x512x768 : Shape := ⟨4, ![3, 8, 512, 768]⟩
abbrev S1x1x256x1024 : Shape := ⟨4, ![1, 1, 256, 1024]⟩
abbrev S1x8x512x768 : Shape := ⟨4, ![1, 8, 512, 768]⟩
abbrev S768x128 : Shape := ⟨2, ![768, 128]⟩
abbrev S1x1x256x128 : Shape := ⟨4, ![1, 1, 256, 128]⟩
abbrev S256x128 : Shape := ⟨2, ![256, 128]⟩
abbrev S512x128 : Shape := ⟨2, ![512, 128]⟩
abbrev S512x768 : Shape := ⟨2, ![512, 768]⟩
abbrev S1x1x512x768 : Shape := ⟨4, ![1, 1, 512, 768]⟩
abbrev S512 : Shape := ⟨1, ![512]⟩
abbrev S512x1 : Shape := ⟨2, ![512, 1]⟩
abbrev S768x256 : Shape := ⟨2, ![768, 256]⟩
abbrev S512x256 : Shape := ⟨2, ![512, 256]⟩
abbrev S512x1024 : Shape := ⟨2, ![512, 1024]⟩
abbrev S512x2816 : Shape := ⟨2, ![512, 2816]⟩

abbrev nBuf : Space → Nat
  | .hbm => 41
  | .vmem => 45
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S3072, .f32⟩
  | .hbm, ⟨6, _⟩ => ⟨S16x15x31, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S32768x1024, .f32⟩
  | .hbm, ⟨13, _⟩ => ⟨S1x1024, .f32⟩
  | .hbm, ⟨14, _⟩ => ⟨S1024x3072, .bf16⟩
  | .hbm, ⟨15, _⟩ => ⟨S1x3072, .f32⟩
  | .hbm, ⟨16, _⟩ => ⟨S32768x1024, .bf16⟩
  | .hbm, ⟨17, _⟩ => ⟨S32768x1024, .bf16⟩
  | .hbm, ⟨18, _⟩ => ⟨S32768x1024, .bf16⟩
  | .hbm, ⟨19, _⟩ => ⟨S_, .i32⟩
  | .hbm, ⟨20, _⟩ => ⟨S_, .f32⟩
  | .hbm, ⟨21, _⟩ => ⟨S16x17x64, .f32⟩
  | .hbm, ⟨22, _⟩ => ⟨S16x16x64, .f32⟩
  | .hbm, ⟨23, _⟩ => ⟨S16x16x64, .f32⟩
  | .hbm, ⟨24, _⟩ => ⟨S16x16x128, .f32⟩
  | .hbm, ⟨25, _⟩ => ⟨S3x16x256x768, .f32⟩
  | .hbm, ⟨26, _⟩ => ⟨S2x64x256x1024, .bf16⟩
  | .hbm, ⟨27, _⟩ => ⟨S2x64x256x1024, .bf16⟩
  | .hbm, ⟨28, _⟩ => ⟨S2x64x256x1024, .bf16⟩
  | .hbm, ⟨29, _⟩ => ⟨S3x8x512x768, .f32⟩
  | .hbm, ⟨30, _⟩ => ⟨S2x64x256x1024, .bf16⟩
  | .hbm, ⟨31, _⟩ => ⟨S32768x1024, .bf16⟩
  | .hbm, ⟨32, _⟩ => ⟨S1024x1024, .bf16⟩
  | .hbm, ⟨33, _⟩ => ⟨S1x1024, .f32⟩
  | .hbm, ⟨34, _⟩ => ⟨S1x1024, .f32⟩
  | .hbm, ⟨35, _⟩ => ⟨S1024x2816, .bf16⟩
  | .hbm, ⟨36, _⟩ => ⟨S1024x2816, .bf16⟩
  | .hbm, ⟨37, _⟩ => ⟨S2816x1024, .bf16⟩
  | .hbm, ⟨38, _⟩ => ⟨S1x1024, .f32⟩
  | .hbm, ⟨39, _⟩ => ⟨S32768x1024, .f32⟩
  | .hbm, ⟨40, _⟩ => ⟨S2x16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1x3072, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x16x128, .f32⟩
  | .local _ .vmem, ⟨12, _⟩ => ⟨S1x16x128, .f32⟩
  | .local _ .vmem, ⟨13, _⟩ => ⟨S3x1x256x768, .f32⟩
  | .local _ .vmem, ⟨14, _⟩ => ⟨S3x1x256x768, .f32⟩
  | .local _ .vmem, ⟨15, _⟩ => ⟨S1x1x256x1024, .bf16⟩
  | .local _ .vmem, ⟨16, _⟩ => ⟨S1x1x256x1024, .bf16⟩
  | .local _ .vmem, ⟨17, _⟩ => ⟨S1x1x256x1024, .bf16⟩
  | .local _ .vmem, ⟨18, _⟩ => ⟨S1x1x256x1024, .bf16⟩
  | .local _ .vmem, ⟨19, _⟩ => ⟨S1x1x256x1024, .bf16⟩
  | .local _ .vmem, ⟨20, _⟩ => ⟨S1x1x256x1024, .bf16⟩
  | .local _ .vmem, ⟨21, _⟩ => ⟨S1x1x256x1024, .bf16⟩
  | .local _ .vmem, ⟨22, _⟩ => ⟨S1x1x256x1024, .bf16⟩
  | .local _ .vmem, ⟨23, _⟩ => ⟨S1x1x256x1024, .bf16⟩
  | .local _ .vmem, ⟨24, _⟩ => ⟨S1x1x256x1024, .bf16⟩
  | .local _ .vmem, ⟨25, _⟩ => ⟨S1x1x256x1024, .bf16⟩
  | .local _ .vmem, ⟨26, _⟩ => ⟨S1x1x256x1024, .bf16⟩
  | .local _ .vmem, ⟨27, _⟩ => ⟨S1x1x256x1024, .bf16⟩
  | .local _ .vmem, ⟨28, _⟩ => ⟨S1x1x256x1024, .bf16⟩
  | .local _ .vmem, ⟨29, _⟩ => ⟨S1x8x512x768, .f32⟩
  | .local _ .vmem, ⟨30, _⟩ => ⟨S1x1x256x1024, .bf16⟩
  | .local _ .vmem, ⟨31, _⟩ => ⟨S1x1x256x1024, .bf16⟩
  | .local _ .vmem, ⟨32, _⟩ => ⟨S512x1024, .f32⟩
  | .local _ .vmem, ⟨33, _⟩ => ⟨S512x1024, .f32⟩
  | .local _ .vmem, ⟨34, _⟩ => ⟨S512x1024, .bf16⟩
  | .local _ .vmem, ⟨35, _⟩ => ⟨S512x1024, .bf16⟩
  | .local _ .vmem, ⟨36, _⟩ => ⟨S1024x1024, .bf16⟩
  | .local _ .vmem, ⟨37, _⟩ => ⟨S1x1024, .f32⟩
  | .local _ .vmem, ⟨38, _⟩ => ⟨S1x1024, .f32⟩
  | .local _ .vmem, ⟨39, _⟩ => ⟨S1024x2816, .bf16⟩
  | .local _ .vmem, ⟨40, _⟩ => ⟨S1024x2816, .bf16⟩
  | .local _ .vmem, ⟨41, _⟩ => ⟨S2816x1024, .bf16⟩
  | .local _ .vmem, ⟨42, _⟩ => ⟨S1x1024, .f32⟩
  | .local _ .vmem, ⟨43, _⟩ => ⟨S512x1024, .f32⟩
  | .local _ .vmem, ⟨44, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg9_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem6_1 : DmaSem sig := 28
abbrev cc2_sem7_0 : DmaSem sig := 29
abbrev cc2_sem8_0 : DmaSem sig := 30
abbrev cc2_sem8_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem9_1 : DmaSem sig := 44

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S1x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x1x256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 64], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c61_i32 : BitVec 32 := 61#32
  let v1 : BitVec 32 := Scalar.maxsi c0_i32 v0
  let v2 : BitVec 32 := Scalar.minsi c61_i32 v1
  let c0_i32_0 : BitVec 32 := 0#32
  let v3 : BitVec 32 := Scalar.addi v2 c0_i32_0
  let c0_i32_1 : BitVec 32 := 0#32
  let c0_i32_2 : BitVec 32 := 0#32
  let c0_i32_3 : BitVec 32 := 0#32
  ![arg0.toNat, v3.toNat, c0_i32_1.toNat, c0_i32_2.toNat]

def cc2_transform_2 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c61_i32 : BitVec 32 := 61#32
  let v1 : BitVec 32 := Scalar.maxsi c0_i32 v0
  let v2 : BitVec 32 := Scalar.minsi c61_i32 v1
  let c1_i32_0 : BitVec 32 := 1#32
  let v3 : BitVec 32 := Scalar.addi v2 c1_i32_0
  let c0_i32_1 : BitVec 32 := 0#32
  let c0_i32_2 : BitVec 32 := 0#32
  let c0_i32_3 : BitVec 32 := 0#32
  ![arg0.toNat, v3.toNat, c0_i32_1.toNat, c0_i32_2.toNat]

def cc2_transform_3 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c61_i32 : BitVec 32 := 61#32
  let v1 : BitVec 32 := Scalar.maxsi c0_i32 v0
  let v2 : BitVec 32 := Scalar.minsi c61_i32 v1
  let c2_i32 : BitVec 32 := 2#32
  let v3 : BitVec 32 := Scalar.addi v2 c2_i32
  let c0_i32_0 : BitVec 32 := 0#32
  let c0_i32_1 : BitVec 32 := 0#32
  let c0_i32_2 : BitVec 32 := 0#32
  ![arg0.toNat, v3.toNat, c0_i32_0.toNat, c0_i32_1.toNat]

def cc2_transform_4 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c61_i32 : BitVec 32 := 61#32
  let v1 : BitVec 32 := Scalar.maxsi c0_i32 v0
  let v2 : BitVec 32 := Scalar.minsi c61_i32 v1
  let c0_i32_0 : BitVec 32 := 0#32
  let v3 : BitVec 32 := Scalar.addi v2 c0_i32_0
  let c0_i32_1 : BitVec 32 := 0#32
  let c0_i32_2 : BitVec 32 := 0#32
  let c0_i32_3 : BitVec 32 := 0#32
  ![arg0.toNat, v3.toNat, c0_i32_1.toNat, c0_i32_2.toNat]

def cc2_transform_5 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c61_i32 : BitVec 32 := 61#32
  let v1 : BitVec 32 := Scalar.maxsi c0_i32 v0
  let v2 : BitVec 32 := Scalar.minsi c61_i32 v1
  let c1_i32_0 : BitVec 32 := 1#32
  let v3 : BitVec 32 := Scalar.addi v2 c1_i32_0
  let c0_i32_1 : BitVec 32 := 0#32
  let c0_i32_2 : BitVec 32 := 0#32
  let c0_i32_3 : BitVec 32 := 0#32
  ![arg0.toNat, v3.toNat, c0_i32_1.toNat, c0_i32_2.toNat]

def cc2_transform_6 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c61_i32 : BitVec 32 := 61#32
  let v1 : BitVec 32 := Scalar.maxsi c0_i32 v0
  let v2 : BitVec 32 := Scalar.minsi c61_i32 v1
  let c2_i32 : BitVec 32 := 2#32
  let v3 : BitVec 32 := Scalar.addi v2 c2_i32
  let c0_i32_0 : BitVec 32 := 0#32
  let c0_i32_1 : BitVec 32 := 0#32
  let c0_i32_2 : BitVec 32 := 0#32
  ![arg0.toNat, v3.toNat, c0_i32_0.toNat, c0_i32_1.toNat]

def cc2_transform_7 (i : grid2.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c63_i32 : BitVec 32 := 63#32
  let v1 : BitVec 1 := Scalar.cmpi .eq arg1 c63_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc2_transform_8 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x1x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x256x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x256x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x1x256x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 1 → Memref sig .tc .vmem S1x8x512x768 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, true]

abbrev stage2_8 : Fin 2 → Memref sig .tc .vmem S1x1x256x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x2816 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x2816 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2816x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]
-- ==== KernelIdeal.lean ====
variable {F : FTy → Type} [FloatOps F] [Named F]
def κ : String → Option EReal := fun
  | "log2e" => some (((Real.log 2)⁻¹ : ℝ) : EReal)
  | "mask" => some ⊥
  | "qscale" => some (((8 * (Real.log 2))⁻¹ : ℝ) : EReal)
  | _ => none
-- ==== ReferenceIdeal.lean ====
abbrev S2x16384x1024 : Shape := ⟨3, ![2, 16384, 1024]⟩
abbrev S1024 : Shape := ⟨1, ![1024]⟩
abbrev S1024x3072 : Shape := ⟨2, ![1024, 3072]⟩
abbrev S3072 : Shape := ⟨1, ![3072]⟩
abbrev S16x15x31 : Shape := ⟨3, ![16, 15, 31]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3072 : Shape := ⟨3, ![2, 16384, 3072]⟩
abbrev S1x1x3072 : Shape := ⟨3, ![1, 1, 3072]⟩
abbrev S2x256x64x16x64 : Shape := ⟨5, ![2, 256, 64, 16, 64]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1 : Shape := ⟨3, ![256, 8, 1]⟩
abbrev S2x256x8x64x16x64 : Shape := ⟨6, ![2, 256, 8, 64, 16, 64]⟩
abbrev S64x16x1 : Shape := ⟨3, ![64, 16, 1]⟩
abbrev S2x256x8x64x16x16x64 : Shape := ⟨7, ![2, 256, 8, 64, 16, 16, 64]⟩
abbrev S2x16x256x64x8x16 : Shape := ⟨6, ![2, 16, 256, 64, 8, 16]⟩
abbrev S256x1x8x1 : Shape := ⟨4, ![256, 1, 8, 1]⟩
abbrev S1x64x1x16 : Shape := ⟨4, ![1, 64, 1, 16]⟩
abbrev S256x64x8x16 : Shape := ⟨4, ![256, 64, 8, 16]⟩
abbrev S256x64x8x16x1 : Shape := ⟨5, ![256, 64, 8, 16, 1]⟩
abbrev S256x64x8x16x2 : Shape := ⟨5, ![256, 64, 8, 16, 2]⟩
abbrev S16x256x64x8x16 : Shape := ⟨5, ![16, 256, 64, 8, 16]⟩
abbrev S1x16x256x64x8x16 : Shape := ⟨6, ![1, 16, 256, 64, 8, 16]⟩
abbrev S2x16x256x64x128 : Shape := ⟨5, ![2, 16, 256, 64, 128]⟩
abbrev S2x16x256x64 : Shape := ⟨4, ![2, 16, 256, 64]⟩
abbrev S2x16x256x64x1 : Shape := ⟨5, ![2, 16, 256, 64, 1]⟩
abbrev S2x16384x2816 : Shape := ⟨3, ![2, 16384, 2816]⟩

abbrev nBuf : Space → Nat
  | .hbm => 220
  | .vmem => 0
  | .smem => 0
  | _ => 0

abbrev hbmTy0_0 (i : Nat) : BufTy := match i % 128 with
  | 0 => ⟨S2x16384x1024, .f32⟩
  | 1 => ⟨S1024, .f32⟩
  | 2 => ⟨S1024, .f32⟩
  | 3 => ⟨S1024, .f32⟩
  | 4 => ⟨S1024x3072, .f32⟩
  | 5 => ⟨S3072, .f32⟩
  | 6 => ⟨S16x15x31, .f32⟩
  | 7 => ⟨S1024x1024, .f32⟩
  | 8 => ⟨S1024, .f32⟩
  | 9 => ⟨S1024x2816, .f32⟩
  | 10 => ⟨S1024x2816, .f32⟩
  | 11 => ⟨S2816x1024, .f32⟩
  | 12 => ⟨S2x16384x1024, .f32⟩
  | 13 => ⟨S_, .f32⟩
  | 14 => ⟨S2x16384, .f32⟩
  | 15 => ⟨S2x16384x1, .f32⟩
  | 16 => ⟨S_, .f32⟩
  | 17 => ⟨S2x16384x1, .f32⟩
  | 18 => ⟨S2x16384x1, .f32⟩
  | 19 => ⟨S_, .f32⟩
  | 20 => ⟨S2x16384x1, .f32⟩
  | 21 => ⟨S2x16384x1, .f32⟩
  | 22 => ⟨S2x16384x1, .f32⟩
  | 23 => ⟨S2x16384x1024, .f32⟩
  | 24 => ⟨S2x16384x1024, .f32⟩
  | 25 => ⟨S1x1x1024, .f32⟩
  | 26 => ⟨S2x16384x1024, .f32⟩
  | 27 => ⟨S2x16384x1024, .f32⟩
  | 28 => ⟨S2x16384x3072, .f32⟩
  | 29 => ⟨S1x1x3072, .f32⟩
  | 30 => ⟨S2x16384x3072, .f32⟩
  | 31 => ⟨S2x16384x3072, .f32⟩
  | 32 => ⟨S2x16384x1024, .f32⟩
  | 33 => ⟨S2x16384x1024, .f32⟩
  | 34 => ⟨S2x16384x1024, .f32⟩
  | 35 => ⟨S2x256x64x16x64, .f32⟩
  | 36 => ⟨S2x256x64x16x64, .f32⟩
  | 37 => ⟨S2x256x64x16x64, .f32⟩
  | 38 => ⟨S_, .f32⟩
  | 39 => ⟨S2x256x64x16x64, .f32⟩
  | 40 => ⟨S2x256x64x16x64, .f32⟩
  | 41 => ⟨S64, .i32⟩
  | 42 => ⟨S_, .i32⟩
  | 43 => ⟨S64, .i32⟩
  | 44 => ⟨S64, .i32⟩
  | 45 => ⟨S_, .i32⟩
  | 46 => ⟨S_, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S64x1, .i32⟩
  | 54 => ⟨S16, .i32⟩
  | 55 => ⟨S1x16, .i32⟩
  | 56 => ⟨S64x16, .i32⟩
  | 57 => ⟨S64x16, .i32⟩
  | 58 => ⟨S64x16, .i32⟩
  | 59 => ⟨S64x1, .i32⟩
  | 60 => ⟨S64x16, .i32⟩
  | 61 => ⟨S64x16, .i32⟩
  | 62 => ⟨S_, .i32⟩
  | 63 => ⟨S64x16, .i32⟩
  | 64 => ⟨S64x16, .i32⟩
  | 65 => ⟨S256, .i32⟩
  | 66 => ⟨S_, .i32⟩
  | 67 => ⟨S256, .i32⟩
  | 68 => ⟨S256, .i32⟩
  | 69 => ⟨S_, .i32⟩
  | 70 => ⟨S_, .i32⟩
  | 71 => ⟨S_, .i32⟩
  | 72 => ⟨S256, .i32⟩
  | 73 => ⟨S256, .i32⟩
  | 74 => ⟨S_, .i32⟩
  | 75 => ⟨S256, .i32⟩
  | 76 => ⟨S256, .i32⟩
  | 77 => ⟨S256x1, .i32⟩
  | 78 => ⟨S8, .i32⟩
  | 79 => ⟨S1x8, .i32⟩
  | 80 => ⟨S256x8, .i32⟩
  | 81 => ⟨S256x8, .i32⟩
  | 82 => ⟨S256x8, .i32⟩
  | 83 => ⟨S256x1, .i32⟩
  | 84 => ⟨S256x8, .i32⟩
  | 85 => ⟨S256x8, .i32⟩
  | 86 => ⟨S_, .i32⟩
  | 87 => ⟨S256x8, .i32⟩
  | 88 => ⟨S256x8, .i32⟩
  | 89 => ⟨S_, .i32⟩
  | 90 => ⟨S256x8, .i32⟩
  | 91 => ⟨S256x8, .i1⟩
  | 92 => ⟨S_, .i32⟩
  | 93 => ⟨S256x8, .i32⟩
  | 94 => ⟨S256x8, .i32⟩
  | 95 => ⟨S256x8, .i32⟩
  | 96 => ⟨S256x8x1, .i32⟩
  | 97 => ⟨S2x256x8x64x16x64, .f32⟩
  | 98 => ⟨S_, .i32⟩
  | 99 => ⟨S64x16, .i32⟩
  | 100 => ⟨S64x16, .i1⟩
  | 101 => ⟨S_, .i32⟩
  | 102 => ⟨S64x16, .i32⟩
  | 103 => ⟨S64x16, .i32⟩
  | 104 => ⟨S64x16, .i32⟩
  | 105 => ⟨S64x16x1, .i32⟩
  | 106 => ⟨S2x256x8x64x16x16x64, .f32⟩
  | 107 => ⟨S_, .i32⟩
  | 108 => ⟨S256x8, .i32⟩
  | 109 => ⟨S256x8, .i1⟩
  | 110 => ⟨S_, .i32⟩
  | 111 => ⟨S256x8, .i32⟩
  | 112 => ⟨S256x8, .i32⟩
  | 113 => ⟨S256x8, .i32⟩
  | 114 => ⟨S256x8x1, .i32⟩
  | 115 => ⟨S2x256x8x64x16x64, .f32⟩
  | 116 => ⟨S_, .i32⟩
  | 117 => ⟨S64x16, .i32⟩
  | 118 => ⟨S64x16, .i1⟩
  | 119 => ⟨S_, .i32⟩
  | 120 => ⟨S64x16, .i32⟩
  | 121 => ⟨S64x16, .i32⟩
  | 122 => ⟨S64x16, .i32⟩
  | 123 => ⟨S64x16x1, .i32⟩
  | 124 => ⟨S2x256x8x64x16x16x64, .f32⟩
  | 125 => ⟨S2x16x256x64x8x16, .f32⟩
  | 126 => ⟨S256x1x8x1, .i32⟩
  | 127 => ⟨S1x64x1x16, .i32⟩
  | _ => ⟨S2x16384x1024, .f32⟩

abbrev hbmTy0_1 (i : Nat) : BufTy := match i % 128 with
  | 0 => ⟨S_, .i32⟩
  | 1 => ⟨S256x1x8x1, .i32⟩
  | 2 => ⟨S256x1x8x1, .i1⟩
  | 3 => ⟨S_, .i32⟩
  | 4 => ⟨S256x1x8x1, .i32⟩
  | 5 => ⟨S256x1x8x1, .i32⟩
  | 6 => ⟨S256x1x8x1, .i32⟩
  | 7 => ⟨S_, .i32⟩
  | 8 => ⟨S1x64x1x16, .i32⟩
  | 9 => ⟨S1x64x1x16, .i1⟩
  | 10 => ⟨S_, .i32⟩
  | 11 => ⟨S1x64x1x16, .i32⟩
  | 12 => ⟨S1x64x1x16, .i32⟩
  | 13 => ⟨S1x64x1x16, .i32⟩
  | 14 => ⟨S256x64x8x16, .i32⟩
  | 15 => ⟨S256x64x8x16, .i32⟩
  | 16 => ⟨S256x64x8x16x1, .i32⟩
  | 17 => ⟨S256x64x8x16x1, .i32⟩
  | 18 => ⟨S256x64x8x16x2, .i32⟩
  | 19 => ⟨S16x256x64x8x16, .f32⟩
  | 20 => ⟨S1x16x256x64x8x16, .f32⟩
  | 21 => ⟨S2x16x256x64x8x16, .f32⟩
  | 22 => ⟨S2x16x256x64x8x16, .f32⟩
  | 23 => ⟨S2x16x256x64x128, .f32⟩
  | 24 => ⟨S_, .f32⟩
  | 25 => ⟨S2x16x256x64, .f32⟩
  | 26 => ⟨S_, .f32⟩
  | 27 => ⟨S2x16x256x64, .f32⟩
  | 28 => ⟨S2x16x256x64, .f32⟩
  | 29 => ⟨S2x16x256x64x1, .f32⟩
  | 30 => ⟨S2x16x256x64x128, .f32⟩
  | 31 => ⟨S2x16x256x64x128, .f32⟩
  | 32 => ⟨S2x16x256x64x128, .f32⟩
  | 33 => ⟨S_, .f32⟩
  | 34 => ⟨S2x16x256x64, .f32⟩
  | 35 => ⟨S2x16x256x64x1, .f32⟩
  | 36 => ⟨S2x16x256x64x128, .f32⟩
  | 37 => ⟨S2x16x256x64x128, .f32⟩
  | 38 => ⟨S2x16x256x64x8x16, .f32⟩
  | 39 => ⟨S2x256x64x16x64, .f32⟩
  | 40 => ⟨S2x16384x1024, .f32⟩
  | 41 => ⟨S2x16384x1024, .f32⟩
  | 42 => ⟨S1x1x1024, .f32⟩
  | 43 => ⟨S2x16384x1024, .f32⟩
  | 44 => ⟨S2x16384x1024, .f32⟩
  | 45 => ⟨S2x16384x1024, .f32⟩
  | 46 => ⟨S2x16384x1024, .f32⟩
  | 47 => ⟨S_, .f32⟩
  | 48 => ⟨S2x16384, .f32⟩
  | 49 => ⟨S2x16384x1, .f32⟩
  | 50 => ⟨S_, .f32⟩
  | 51 => ⟨S2x16384x1, .f32⟩
  | 52 => ⟨S2x16384x1, .f32⟩
  | 53 => ⟨S_, .f32⟩
  | 54 => ⟨S2x16384x1, .f32⟩
  | 55 => ⟨S2x16384x1, .f32⟩
  | 56 => ⟨S2x16384x1, .f32⟩
  | 57 => ⟨S2x16384x1024, .f32⟩
  | 58 => ⟨S2x16384x1024, .f32⟩
  | 59 => ⟨S1x1x1024, .f32⟩
  | 60 => ⟨S2x16384x1024, .f32⟩
  | 61 => ⟨S2x16384x1024, .f32⟩
  | 62 => ⟨S2x16384x2816, .f32⟩
  | 63 => ⟨S2x16384x2816, .f32⟩
  | 64 => ⟨S2x16384x2816, .f32⟩
  | 65 => ⟨S_, .f32⟩
  | 66 => ⟨S2x16384x2816, .f32⟩
  | 67 => ⟨S2x16384x2816, .f32⟩
  | 68 => ⟨S_, .f32⟩
  | 69 => ⟨S2x16384x2816, .f32⟩
  | 70 => ⟨S2x16384x2816, .f32⟩
  | 71 => ⟨S2x16384x2816, .f32⟩
  | 72 => ⟨S2x16384x2816, .f32⟩
  | 73 => ⟨S2x16384x2816, .f32⟩
  | 74 => ⟨S2x16384x1024, .f32⟩
  | 75 => ⟨S2x16384x1024, .f32⟩
  | 76 => ⟨S2x16384x1024, .f32⟩
  | 77 => ⟨S_, .f32⟩
  | 78 => ⟨S2x16384, .f32⟩
  | 79 => ⟨S2x16384x1, .f32⟩
  | 80 => ⟨S_, .f32⟩
  | 81 => ⟨S2x16384x1, .f32⟩
  | 82 => ⟨S2x16384x1, .f32⟩
  | 83 => ⟨S_, .f32⟩
  | 84 => ⟨S2x16384x1, .f32⟩
  | 85 => ⟨S2x16384x1, .f32⟩
  | 86 => ⟨S2x16384x1, .f32⟩
  | 87 => ⟨S2x16384x1024, .f32⟩
  | 88 => ⟨S2x16384x1024, .f32⟩
  | 89 => ⟨S1x1x1024, .f32⟩
  | 90 => ⟨S2x16384x1024, .f32⟩
  | 91 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_c_4 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_6 : Ref sig .tc := ⟨.hbm, 66, rfl⟩
abbrev main_v41 : Ref sig .tc := ⟨.hbm, 67, rfl⟩
abbrev main_v42 : Ref sig .tc := ⟨.hbm, 68, rfl⟩
abbrev main_c_7 : Ref sig .tc := ⟨.hbm, 69, rfl⟩
abbrev main_c_8 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_9 : Ref sig .tc := ⟨.hbm, 86, rfl⟩
abbrev main_v53 : Ref sig .tc := ⟨.hbm, 87, rfl⟩
abbrev main_v54 : Ref sig .tc := ⟨.hbm, 88, rfl⟩
abbrev main_c_10 : Ref sig .tc := ⟨.hbm, 89, rfl⟩
abbrev main_v55 : Ref sig .tc := ⟨.hbm, 90, rfl⟩
abbrev main_v56 : Ref sig .tc := ⟨.hbm, 91, rfl⟩
abbrev main_c_11 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_12 : Ref sig .tc := ⟨.hbm, 98, rfl⟩
abbrev main_v62 : Ref sig .tc := ⟨.hbm, 99, rfl⟩
abbrev main_v63 : Ref sig .tc := ⟨.hbm, 100, rfl⟩
abbrev main_c_13 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_14 : Ref sig .tc := ⟨.hbm, 107, rfl⟩
abbrev main_v69 : Ref sig .tc := ⟨.hbm, 108, rfl⟩
abbrev main_v70 : Ref sig .tc := ⟨.hbm, 109, rfl⟩
abbrev main_c_15 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_16 : Ref sig .tc := ⟨.hbm, 116, rfl⟩
abbrev main_v76 : Ref sig .tc := ⟨.hbm, 117, rfl⟩
abbrev main_v77 : Ref sig .tc := ⟨.hbm, 118, rfl⟩
abbrev main_c_17 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_18 : Ref sig .tc := ⟨.hbm, 128, rfl⟩
abbrev main_v86 : Ref sig .tc := ⟨.hbm, 129, rfl⟩
abbrev main_v87 : Ref sig .tc := ⟨.hbm, 130, rfl⟩
abbrev main_c_19 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_c_20 : Ref sig .tc := ⟨.hbm, 135, rfl⟩
abbrev main_v91 : Ref sig .tc := ⟨.hbm, 136, rfl⟩
abbrev main_v92 : Ref sig .tc := ⟨.hbm, 137, rfl⟩
abbrev main_c_21 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_22 : Ref sig .tc := ⟨.hbm, 152, rfl⟩
abbrev main_v106 : Ref sig .tc := ⟨.hbm, 153, rfl⟩
abbrev main_cst_23 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_24 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_25 : Ref sig .tc := ⟨.hbm, 175, rfl⟩
abbrev main_v126 : Ref sig .tc := ⟨.hbm, 176, rfl⟩
abbrev main_v127 : Ref sig .tc := ⟨.hbm, 177, rfl⟩
abbrev main_cst_26 : Ref sig .tc := ⟨.hbm, 178, rfl⟩
abbrev main_v128 : Ref sig .tc := ⟨.hbm, 179, rfl⟩
abbrev main_v129 : Ref sig .tc := ⟨.hbm, 180, rfl⟩
abbrev main_cst_27 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_call2_v0 : Ref sig .tc := ⟨.hbm, 191, rfl⟩
abbrev main_call2_v1 : Ref sig .tc := ⟨.hbm, 192, rfl⟩
abbrev main_call2_cst : Ref sig .tc := ⟨.hbm, 193, rfl⟩
abbrev main_call2_v2 : Ref sig .tc := ⟨.hbm, 194, rfl⟩
abbrev main_call2_v3 : Ref sig .tc := ⟨.hbm, 195, rfl⟩
abbrev main_call2_cst_0 : Ref sig .tc := ⟨.hbm, 196, rfl⟩
abbrev main_call2_v4 : Ref sig .tc := ⟨.hbm, 197, rfl⟩
abbrev main_call2_v5 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_28 : Ref sig .tc := ⟨.hbm, 205, rfl⟩
abbrev main_v145 : Ref sig .tc := ⟨.hbm, 206, rfl⟩
abbrev main_v146 : Ref sig .tc := ⟨.hbm, 207, rfl⟩
abbrev main_cst_29 : Ref sig .tc := ⟨.hbm, 208, rfl⟩
abbrev main_v147 : Ref sig .tc := ⟨.hbm, 209, rfl⟩
abbrev main_v148 : Ref sig .tc := ⟨.hbm, 210, rfl⟩
abbrev main_cst_30 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩

abbrev nD : Nat := 1
abbrev τ : Topo := Topo.v7x

variable {F : FTy → Type} [FloatOps F]
-- ==== HyenaIn.lean ====
abbrev S2x16384x1024 : Shape := ⟨3, ![2, 16384, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S1x1024 : Shape := ⟨2, ![1, 1024]⟩
abbrev S1x3072 : Shape := ⟨2, ![1, 3072]⟩
abbrev S2x8x16x1024x128 : Shape := ⟨5, ![2, 8, 16, 1024, 128]⟩
abbrev S1x8x1024 : Shape := ⟨3, ![1, 8, 1024]⟩
abbrev S1x512x1024 : Shape := ⟨3, ![1, 512, 1024]⟩
abbrev S1x8x16x32x128 : Shape := ⟨5, ![1, 8, 16, 32, 128]⟩
abbrev S3x528x3072 : Shape := ⟨3, ![3, 528, 3072]⟩
abbrev S8x1024 : Shape := ⟨2, ![8, 1024]⟩
abbrev S512x1024 : Shape := ⟨2, ![512, 1024]⟩
abbrev S528x1024 : Shape := ⟨2, ![528, 1024]⟩
abbrev S528 : Shape := ⟨1, ![528]⟩
abbrev S528x1 : Shape := ⟨2, ![528, 1]⟩
abbrev S528x3072 : Shape := ⟨2, ![528, 3072]⟩
abbrev S1x528x3072 : Shape := ⟨3, ![1, 528, 3072]⟩
abbrev S8x128 : Shape := ⟨2, ![8, 128]⟩
abbrev S32x128 : Shape := ⟨2, ![32, 128]⟩
abbrev S1x1x1x32x128 : Shape := ⟨5, ![1, 1, 1, 32, 128]⟩
abbrev S2x8x16x128x8x128 : Shape := ⟨6, ![2, 8, 16, 128, 8, 128]⟩
abbrev S2x128x16x8x8x128 : Shape := ⟨6, ![2, 128, 16, 8, 8, 128]⟩

abbrev nBuf : Space → Nat
  | .hbm => 16
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3072, .f32⟩
  | .hbm, ⟨3, _⟩ => ⟨S3072, .f32⟩
  | .hbm, ⟨4, _⟩ => ⟨S3x3072, .f32⟩
  | .hbm, ⟨5, _⟩ => ⟨S3072, .f32⟩
  | .hbm, ⟨6, _⟩ => ⟨S1x1024, .f32⟩
  | .hbm, ⟨7, _⟩ => ⟨S1024x3072, .bf16⟩
  | .hbm, ⟨8, _⟩ => ⟨S1x3072, .f32⟩
  | .hbm, ⟨9, _⟩ => ⟨S1x3072, .f32⟩
  | .hbm, ⟨10, _⟩ => ⟨S2x8x16x1024x128, .f32⟩
  | .hbm, ⟨11, _⟩ => ⟨S2x16384x1024, .bf16⟩
  | .hbm, ⟨12, _⟩ => ⟨S2x8x16x128x8x128, .f32⟩
  | .hbm, ⟨13, _⟩ => ⟨S2x128x16x8x8x128, .f32⟩
  | .hbm, ⟨14, _⟩ => ⟨S2x16384x1024, .f32⟩
  | .hbm, ⟨15, _⟩ => ⟨S2x16384x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x3072, .bf16⟩
  | .local _ .vmem, ⟨8, _⟩ => ⟨S1x3072, .f32⟩
  | .local _ .vmem, ⟨9, _⟩ => ⟨S3x3072, .f32⟩
  | .local _ .vmem, ⟨10, _⟩ => ⟨S1x3072, .f32⟩
  | .local _ .vmem, ⟨11, _⟩ => ⟨S1x8x16x32x128, .f32⟩
  | .local _ .vmem, ⟨12, _⟩ => ⟨S1x8x16x32x128, .f32⟩
  | .local _ .vmem, ⟨13, _⟩ => ⟨S1x512x1024, .bf16⟩
  | .local _ .vmem, ⟨14, _⟩ => ⟨S1x512x1024, .bf16⟩
  | .local _ .vmem, ⟨15, _⟩ => ⟨S3x528x3072, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x16x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== HyenaInReferenceIdeal.lean ====
abbrev S2x16384x1024 : Shape := ⟨3, ![2, 16384, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3072 : Shape := ⟨3, ![2, 16384, 3072]⟩
abbrev S1x1x3072 : Shape := ⟨3, ![1, 1, 3072]⟩
abbrev S2x16386x3072 : Shape := ⟨3, ![2, 16386, 3072]⟩
abbrev S1x3072 : Shape := ⟨2, ![1, 3072]⟩

abbrev nBuf : Space → Nat
  | .hbm => 56
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3072, .f32⟩
  | .hbm, ⟨3, _⟩ => ⟨S3072, .f32⟩
  | .hbm, ⟨4, _⟩ => ⟨S3x3072, .f32⟩
  | .hbm, ⟨5, _⟩ => ⟨S3072, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S2x16384x3072, .f32⟩
  | .hbm, ⟨23, _⟩ => ⟨S1x1x3072, .f32⟩
  | .hbm, ⟨24, _⟩ => ⟨S2x16384x3072, .f32⟩
  | .hbm, ⟨25, _⟩ => ⟨S2x16384x3072, .f32⟩
  | .hbm, ⟨26, _⟩ => ⟨S_, .i32⟩
  | .hbm, ⟨27, _⟩ => ⟨S_, .f32⟩
  | .hbm, ⟨28, _⟩ => ⟨S2x16386x3072, .f32⟩
  | .hbm, ⟨29, _⟩ => ⟨S1x3072, .f32⟩
  | .hbm, ⟨30, _⟩ => ⟨S3072, .f32⟩
  | .hbm, ⟨31, _⟩ => ⟨S2x16384x3072, .f32⟩
  | .hbm, ⟨32, _⟩ => ⟨S1x1x3072, .f32⟩
  | .hbm, ⟨33, _⟩ => ⟨S2x16384x3072, .f32⟩
  | .hbm, ⟨34, _⟩ => ⟨S2x16384x3072, .f32⟩
  | .hbm, ⟨35, _⟩ => ⟨S1x3072, .f32⟩
  | .hbm, ⟨36, _⟩ => ⟨S3072, .f32⟩
  | .hbm, ⟨37, _⟩ => ⟨S2x16384x3072, .f32⟩
  | .hbm, ⟨38, _⟩ => ⟨S1x1x3072, .f32⟩
  | .hbm, ⟨39, _⟩ => ⟨S2x16384x3072, .f32⟩
  | .hbm, ⟨40, _⟩ => ⟨S2x16384x3072, .f32⟩
  | .hbm, ⟨41, _⟩ => ⟨S2x16384x3072, .f32⟩
  | .hbm, ⟨42, _⟩ => ⟨S1x3072, .f32⟩
  | .hbm, ⟨43, _⟩ => ⟨S3072, .f32⟩
  | .hbm, ⟨44, _⟩ => ⟨S2x16384x3072, .f32⟩
  | .hbm, ⟨45, _⟩ => ⟨S1x1x3072, .f32⟩
  | .hbm, ⟨46, _⟩ => ⟨S2x16384x3072, .f32⟩
  | .hbm, ⟨47, _⟩ => ⟨S2x16384x3072, .f32⟩
  | .hbm, ⟨48, _⟩ => ⟨S2x16384x3072, .f32⟩
  | .hbm, ⟨49, _⟩ => ⟨S1x1x3072, .f32⟩
  | .hbm, ⟨50, _⟩ => ⟨S2x16384x3072, .f32⟩
  | .hbm, ⟨51, _⟩ => ⟨S2x16384x3072, .f32⟩
  | .hbm, ⟨52, _⟩ => ⟨S2x16384x1024, .f32⟩
  | .hbm, ⟨53, _⟩ => ⟨S2x16384x1024, .f32⟩
  | .hbm, ⟨54, _⟩ => ⟨S2x16384x1024, .f32⟩
  | .hbm, ⟨55, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== ProjFfn.lean ====
abbrev S2x16384x1024 : Shape := ⟨3, ![2, 16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2x128x16x8x8x128 : Shape := ⟨6, ![2, 128, 16, 8, 8, 128]⟩
abbrev S2x8x16x128x8x128 : Shape := ⟨6, ![2, 8, 16, 128, 8, 128]⟩
abbrev S2x8x16x1024x128 : Shape := ⟨5, ![2, 8, 16, 1024, 128]⟩
abbrev S1x1024 : Shape := ⟨2, ![1, 1024]⟩
abbrev S1x512x1024 : Shape := ⟨3, ![1, 512, 1024]⟩
abbrev S1x8x16x32x128 : Shape := ⟨5, ![1, 8, 16, 32, 128]⟩
abbrev S1x1x1x8x128 : Shape := ⟨5, ![1, 1, 1, 8, 128]⟩
abbrev S8x128 : Shape := ⟨2, ![8, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 20
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S2x128x16x8x8x128, .f32⟩
  | .hbm, ⟨10, _⟩ => ⟨S2x8x16x128x8x128, .f32⟩
  | .hbm, ⟨11, _⟩ => ⟨S2x8x16x1024x128, .f32⟩
  | .hbm, ⟨12, _⟩ => ⟨S2x16384x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x16x32x128, .f32⟩
  | .local _ .vmem, ⟨3, _⟩ => ⟨S1x8x16x32x128, .f32⟩
  | .local _ .vmem, ⟨4, _⟩ => ⟨S1x512x1024, .bf16⟩
  | .local _ .vmem, ⟨5, _⟩ => ⟨S1x512x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x512x1024, .f32⟩
  | .local _ .vmem, ⟨13, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x16x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjFfnReferenceIdeal.lean ====
abbrev S2x16384x1024 : Shape := ⟨3, ![2, 16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1x1024 : Shape := ⟨3, ![1, 1, 1024]⟩
abbrev S_ : Shape := ⟨0, ![]⟩
abbrev S2x16384 : Shape := ⟨2, ![2, 16384]⟩
abbrev S2x16384x1 : Shape := ⟨3, ![2, 16384, 1]⟩
abbrev S2x16384x2816 : Shape := ⟨3, ![2, 16384, 2816]⟩

abbrev nBuf : Space → Nat
  | .hbm => 45
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S2x16384x1024, .f32⟩
  | .hbm, ⟨10, _⟩ => ⟨S2x16384x1024, .f32⟩
  | .hbm, ⟨11, _⟩ => ⟨S1x1x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S2x16384x1024, .f32⟩
  | .hbm, ⟨16, _⟩ => ⟨S_, .f32⟩
  | .hbm, ⟨17, _⟩ => ⟨S2x16384, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S2x16384x1, .f32⟩
  | .hbm, ⟨26, _⟩ => ⟨S2x16384x1024, .f32⟩
  | .hbm, ⟨27, _⟩ => ⟨S2x16384x1024, .f32⟩
  | .hbm, ⟨28, _⟩ => ⟨S1x1x1024, .f32⟩
  | .hbm, ⟨29, _⟩ => ⟨S2x16384x1024, .f32⟩
  | .hbm, ⟨30, _⟩ => ⟨S2x16384x1024, .f32⟩
  | .hbm, ⟨31, _⟩ => ⟨S2x16384x2816, .f32⟩
  | .hbm, ⟨32, _⟩ => ⟨S2x16384x2816, .f32⟩
  | .hbm, ⟨33, _⟩ => ⟨S2x16384x2816, .f32⟩
  | .hbm, ⟨34, _⟩ => ⟨S_, .f32⟩
  | .hbm, ⟨35, _⟩ => ⟨S2x16384x2816, .f32⟩
  | .hbm, ⟨36, _⟩ => ⟨S2x16384x2816, .f32⟩
  | .hbm, ⟨37, _⟩ => ⟨S_, .f32⟩
  | .hbm, ⟨38, _⟩ => ⟨S2x16384x2816, .f32⟩
  | .hbm, ⟨39, _⟩ => ⟨S2x16384x2816, .f32⟩
  | .hbm, ⟨40, _⟩ => ⟨S2x16384x2816, .f32⟩
  | .hbm, ⟨41, _⟩ => ⟨S2x16384x2816, .f32⟩
  | .hbm, ⟨42, _⟩ => ⟨S2x16384x2816, .f32⟩
  | .hbm, ⟨43, _⟩ => ⟨S2x16384x1024, .f32⟩
  | .hbm, ⟨44, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩

abbrev nD : Nat := 1
abbrev τ : Topo := Topo.v7x

variable {F : FTy → Type} [FloatOps F]
-- ==== Proof.Run.lean ====
/- The kernel's run, result included: at the compiled mesh, from any memory with zero counters, every fair execution
   ends with the result array holding what the last boundary of the run leaves in it, and every argument as launched. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: the regions and the host stretches between them, one after another, each from the contents the one before it
    left; the result is read at the last boundary. -/
theorem run : θ_run defs (onTc (τ := τ) (main (F := F))) ⟨m, fun _ => 0, ρ⟩ (fun r => (∀ c : Dev nD,
      r.2.mem ((c.tc : Thread nD τ).loc main_v24) = W11 m ρ c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => fun c =>
      ⟨h c _ (mem_uc main_v24 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.Value

end
-- ==== Proof.Softmax.lean ====
/- The mathematics of the attention's softmax on the extended reals, apart from any program: sums of real numbers stay
   real, and a softmax taken in powers of two over a block of keys, most of them masked, is the softmax over the window. -/
module

public import Idealize.ShloMosaic.PureOps.Ideal

@[expose] public section

noncomputable section

namespace Cert.Layer

open Idealize.ShloMosaic

/-- An extended real that is a real number. -/
def IsReal (x : EReal) : Prop := ∃ r : ℝ, x = (r : EReal)

theorem IsReal.coe (r : ℝ) : IsReal (r : EReal) := ⟨r, rfl⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

/-- The sum of real numbers, taken on the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- A number with an absolute value below infinity is real. -/
theorem isReal_of_abs_lt {x : EReal} (h : x < ⊤) (h' : ⊥ < x) : IsReal x := by
  induction x using EReal.rec with
  | bot => exact absurd h' (lt_irrefl _)
  | coe r => exact ⟨r, rfl⟩
  | top => exact absurd h (lt_irrefl _)

/-- A quotient by a real number other than zero is the real quotient. -/
theorem div_coe_coe (a : ℝ) {b : ℝ} (hb : b ≠ 0) : Ideal.div (a : EReal) (b : EReal) = ((a / b : ℝ) : EReal) := by
  have hb' : (b : EReal) ≠ 0 := by exact_mod_cast hb
  rw [Ideal.div, if_neg hb', ← EReal.coe_inv, ← EReal.coe_mul, div_eq_mul_inv]

/-- The greatest of finitely many real numbers, folded up from minus infinity on the extended reals. -/
theorem fold_max_coe {W : Type} [Fintype W] [Nonempty W] (t : W → ℝ) :
    Finset.univ.fold max (⊥ : EReal) (fun w => (t w : EReal))
      = ((Finset.univ.sup' Finset.univ_nonempty t : ℝ) : EReal) := by
  change Finset.univ.sup (fun w => (t w : EReal)) = _
  apply le_antisymm
  · exact Finset.sup_le fun w _ => by exact_mod_cast Finset.le_sup' t (Finset.mem_univ w)
  · obtain ⟨w, hw, e⟩ := Finset.exists_mem_eq_sup' Finset.univ_nonempty t
    rw [e]; exact Finset.le_sup (f := fun w => (t w : EReal)) hw

/-- The greatest of the keys' logits when every key outside the window is masked with minus infinity. -/
theorem fold_max_masked {K W : Type} [Fintype K] [Fintype W] [Nonempty W] (φ : W → K) (t : W → ℝ) (s : K → EReal)
    (hs : ∀ w, s (φ w) = (t w : EReal)) (hm : ∀ k, (∀ w, φ w ≠ k) → s k = ⊥) :
    Finset.univ.fold max (⊥ : EReal) s = ((Finset.univ.sup' Finset.univ_nonempty t : ℝ) : EReal) := by
  rw [← fold_max_coe t]
  change Finset.univ.sup s = Finset.univ.sup (fun w => (t w : EReal))
  apply le_antisymm
  · refine Finset.sup_le fun k _ => ?_
    by_cases h : ∃ w, φ w = k
    · obtain ⟨w, rfl⟩ := h; rw [hs]; exact Finset.le_sup (f := fun w => (t w : EReal)) (Finset.mem_univ w)
    · rw [hm k fun w e => h ⟨w, e⟩]; exact bot_le
  · exact Finset.sup_le fun w _ => by rw [← hs]; exact Finset.le_sup (f := s) (Finset.mem_univ _)

/-- A power of two with exponent over `ln 2` is the exponential. -/
theorem rpow_two_div (a b : ℝ) : Real.rpow 2 (a / Real.log 2 - b / Real.log 2) = Real.exp (a - b) := by
  have h : Real.log 2 ≠ 0 := (Real.log_pos (by norm_num)).ne'
  rw [Real.rpow_eq_pow]
  rw [Real.rpow_def_of_pos (by norm_num)]; congr 1; field_simp

/-- THE SOFTMAX IDENTITY. Over the keys `K` of a block, of which the window `W` is a part (`φ`), logits in units of
    `1 / ln 2` on the window and minus infinity off it: the weighted sum of powers of two times one over their total is
    the weighted sum, over the window alone, of the exponentials each divided by their total. -/
theorem softmax_block {K W : Type} [Fintype K] [Fintype W] [Nonempty W] (φ : W → K) (hφ : Function.Injective φ)
    (t : W → ℝ) (u : K → ℝ) (s : K → EReal)
    (hs : ∀ w, s (φ w) = ((t w / Real.log 2 : ℝ) : EReal)) (hm : ∀ k, (∀ w, φ w ≠ k) → s k = ⊥) :
    (∑ k, Ideal.exp2 (s k - Finset.univ.fold max (⊥ : EReal) s) * (u k : EReal))
        * Ideal.div 1 (∑ k, Ideal.exp2 (s k - Finset.univ.fold max (⊥ : EReal) s))
      = ∑ w, Ideal.div (Ideal.exp ((t w : EReal) - Finset.univ.fold max (⊥ : EReal) (fun w => (t w : EReal))))
          (∑ w', Ideal.exp ((t w' : EReal) - Finset.univ.fold max (⊥ : EReal) (fun w => (t w : EReal)))) * (u (φ w) : EReal) := by
  classical
  have hl : 0 < Real.log 2 := Real.log_pos (by norm_num)
  set M : ℝ := Finset.univ.sup' Finset.univ_nonempty t with hM
  have h1 : Finset.univ.fold max (⊥ : EReal) (fun w => (t w : EReal)) = (M : EReal) := fold_max_coe t
  have h2 : Finset.univ.fold max (⊥ : EReal) s = ((M / Real.log 2 : ℝ) : EReal) := by
    rw [fold_max_masked φ (fun w => t w / Real.log 2) s hs hm]
    congr 1
    apply le_antisymm
    · exact Finset.sup'_le _ _ fun w hw => by
        gcongr; exact Finset.le_sup' t hw
    · obtain ⟨w, hw, e⟩ := Finset.exists_mem_eq_sup' Finset.univ_nonempty t
      rw [hM, e]; exact Finset.le_sup' (fun w => t w / Real.log 2) hw
  have e1 : ∀ w, Ideal.exp2 (s (φ w) - ((M / Real.log 2 : ℝ) : EReal)) = ((Real.exp (t w - M) : ℝ) : EReal) := fun w => by
    rw [hs, ← EReal.coe_sub, Ideal.exp2_coe, rpow_two_div]
  have e0 : ∀ k, (∀ w, φ w ≠ k) → Ideal.exp2 (s k - ((M / Real.log 2 : ℝ) : EReal)) = 0 := fun k hk => by
    rw [hm k hk, sub_eq_add_neg, EReal.bot_add, Ideal.exp2_bot]
  rw [h1, h2]
  have hsum : (∑ k, Ideal.exp2 (s k - ((M / Real.log 2 : ℝ) : EReal))) = ((∑ w, Real.exp (t w - M) : ℝ) : EReal) := by
    rw [coe_sum]
    refine (Fintype.sum_of_injective φ hφ _ _ (fun k hk => ?_) fun w => ?_).symm
    · exact e0 k fun w e => hk ⟨w, e⟩
    · exact (e1 w).symm
  have hsumu : (∑ k, Ideal.exp2 (s k - ((M / Real.log 2 : ℝ) : EReal)) * (u k : EReal))
      = ((∑ w, Real.exp (t w - M) * u (φ w) : ℝ) : EReal) := by
    rw [coe_sum]
    refine (Fintype.sum_of_injective φ hφ _ _ (fun k hk => ?_) fun w => ?_).symm
    · simp only [e0 k fun w e => hk ⟨w, e⟩, zero_mul]
    · simp only [e1 w, EReal.coe_mul]
  have hden : (∑ w, Ideal.exp ((t w : EReal) - (M : EReal))) = ((∑ w, Real.exp (t w - M) : ℝ) : EReal) := by
    rw [coe_sum]
    exact Finset.sum_congr rfl fun w _ => by rw [← EReal.coe_sub, Ideal.exp_coe]
  have hpos : (∑ w, Real.exp (t w - M)) ≠ 0 :=
    (Finset.sum_pos (fun w _ => Real.exp_pos _) Finset.univ_nonempty).ne'
  rw [hsum, hsumu, hden, ← EReal.coe_one, div_coe_coe 1 hpos, ← EReal.coe_mul, Finset.sum_mul, coe_sum]
  refine Finset.sum_congr rfl fun w _ => ?_
  rw [← EReal.coe_sub, Ideal.exp_coe, div_coe_coe _ hpos, ← EReal.coe_mul]
  congr 1; field_simp

end Cert.Layer

end
-- ==== Proof.Spec.lean ====
/- What the layer computes, row by row, as plain functions of coordinates over the extended reals. -/
module

public import Idealize.ShloMosaic.PureOps.Ideal

@[expose] public section

noncomputable section

namespace Cert.Layer

open Idealize.ShloMosaic

/-- RMS normalisation of a row of 1024 channels with gain `g`. -/
def rms (x g : Fin 1024 → EReal) (c : Fin 1024) : EReal :=
  x c * Ideal.rsqrt (Ideal.div (∑ k, x k * x k) (Ideal.ofBits .f32 0x44800000#32) + Ideal.ofBits .f32 0x358637BD#32) * g c

/-- The projection to queries, keys and values: column `n` of the 3072. -/
def proj (x g : Fin 1024 → EReal) (w : Fin 1024 → Fin 3072 → EReal) (b : Fin 3072 → EReal) (n : Fin 3072) : EReal :=
  (∑ d, rms x g d * w d n) + b n

/-- The mixer's residual: the attended row through the output projection, added to the row. -/
def resid (x a : Fin 1024 → EReal) (wo : Fin 1024 → Fin 1024 → EReal) (bo : Fin 1024 → EReal) (n : Fin 1024) : EReal :=
  x n + ((∑ k, a k * wo k n) + bo n)

/-- The gated hidden channel `f` of the feed-forward part. -/
def gated (y g : Fin 1024 → EReal) (wg wu : Fin 1024 → Fin 2816 → EReal) (f : Fin 2816) : EReal :=
  (∑ k, rms y g k * wg k f) * Ideal.logistic (∑ k, rms y g k * wg k f) * (∑ k, rms y g k * wu k f)

/-- The feed-forward part with its residual. -/
def ffn (y g : Fin 1024 → EReal) (wg wu : Fin 1024 → Fin 2816 → EReal) (wd : Fin 2816 → Fin 1024 → EReal) (n : Fin 1024) : EReal :=
  y n + ∑ f, gated y g wg wu f * wd f n

/-- A row of the layer's result, from the row `x` that enters the layer and the attended row `a`. -/
def tail (x a : Fin 1024 → EReal) (wo : Fin 1024 → Fin 1024 → EReal) (bo g : Fin 1024 → EReal)
    (wg wu : Fin 1024 → Fin 2816 → EReal) (wd : Fin 2816 → Fin 1024 → EReal) (gf : Fin 1024 → EReal) (n : Fin 1024) : EReal :=
  rms (ffn (resid x a wo bo) g wg wu wd) gf n

/-- The arrays the layer takes, as functions of their coordinates. -/
structure Args where
  /-- The rows that enter the layer. -/
  x : Fin 2 → Fin 16384 → Fin 1024 → EReal
  /-- The gain before the mixer. -/
  gmix : Fin 1024 → EReal
  /-- The gain before the feed-forward part. -/
  gffn : Fin 1024 → EReal
  /-- The gain of the last normalisation. -/
  gfin : Fin 1024 → EReal
  /-- The projection to queries, keys and values. -/
  wqkv : Fin 1024 → Fin 3072 → EReal
  /-- Its offset. -/
  bqkv : Fin 3072 → EReal
  /-- The relative position biases: head, row offset, column offset. -/
  rpb : Fin 16 → Fin 15 → Fin 31 → EReal
  /-- The output projection. -/
  wo : Fin 1024 → Fin 1024 → EReal
  /-- Its offset. -/
  bo : Fin 1024 → EReal
  /-- The gate weights. -/
  wg : Fin 1024 → Fin 2816 → EReal
  /-- The up weights. -/
  wu : Fin 1024 → Fin 2816 → EReal
  /-- The down weights. -/
  wd : Fin 2816 → Fin 1024 → EReal

/-- Column `n` of token `t`'s queries, keys and values. -/
def Args.z (A : Args) (b : Fin 2) (t : Fin 16384) (n : Fin 3072) : EReal := proj (A.x b t) A.gmix A.wqkv A.bqkv n

/-- The layer's result at a token, from the attended rows. -/
def Args.out (A : Args) (att : Fin 2 → Fin 16384 → Fin 1024 → EReal) (b : Fin 2) (t : Fin 16384) (n : Fin 1024) : EReal :=
  tail (A.x b t) (att b t) A.wo A.bo A.gffn A.wg A.wu A.wd A.gfin n

/-- The output projection of the long convolution's layer: its result at a token, from the convolved array `y` and its gate `x0`. -/
def outAt (x y x0 : Fin 2 → Fin 16384 → Fin 1024 → EReal) (wo : Fin 1024 → Fin 1024 → EReal) (bo g : Fin 1024 → EReal)
    (wg wu : Fin 1024 → Fin 2816 → EReal) (wd : Fin 2816 → Fin 1024 → EReal) (b : Fin 2) (t : Fin 16384) (n : Fin 1024) : EReal :=
  ffn (resid (x b t) (fun k => y b t k * x0 b t k) wo bo) g wg wu wd n

end Cert.Layer

end
-- ==== Proof.Finite.lean ====
/- What the precondition gives: the weights the attention's logits come from hold real numbers, and so does the projection. -/
module

public import proofs.«01_k».proof.Pre_finite
public import proofs.«01_k».proof.Proof.Gen.Pre_finite
public import proofs.«01_k».proof.Proof.Softmax
public import proofs.«01_k».proof.Proof.Spec
public import Idealize.ShloMosaic.Lib.ReduceAll

@[expose] public section

noncomputable section

namespace Cert.Layer

open Idealize.ShloMosaic Cert.Pre_finite

theorem ofBits_inf : Ideal.ofBits .f32 0x7F800000#32 = ⊤ := by simp [Ideal.ofBits, Ideal.ieee]

/-- A number whose absolute value compares below infinity is real. -/
theorem isReal_of_cmp (x : EReal) (h : FloatOps.cmpf (F := Ideal) (φ := .f32) .olt (FloatOps.absf (F := Ideal) (φ := .f32) x) (Ideal.ofBits .f32 0x7F800000#32) = 1#1) : IsReal x := by
  rw [ofBits_inf] at h
  induction x using EReal.rec with
  | coe r => exact ⟨r, rfl⟩
  | bot => exact absurd h (by simp [FloatOps.cmpf, FloatOps.absf, Ideal.cmp])
  | top => exact absurd h (by simp [FloatOps.cmpf, FloatOps.absf, Ideal.cmp])

instance : Subsingleton S_.Idx := ⟨fun a b => funext fun i => i.elim0⟩

/-- An array that passes `jnp.all(abs(a) < inf)` holds real numbers. -/
theorem all_real {s : Shape} {axes : List (Fin s.rank)} (x : FVec Ideal s .f32) (hb : S_.BroadcastsInDim s (![] : Fin 0 → Fin s.rank))
    (hr : s.ReducesTo axes S_) (j : S_.Idx)
    (e : Host.reduce IntOp.andi (cmpf .olt (Host.absf (F := Ideal) x) (broadcastInDim s ![] hb (constant S_ .f32 0x7F800000#32))) (constantI S_ 1 1#1) hr Cert.Pre_finite.Gen.h_S_ j = 1#1)
    (i : s.Idx) : IsReal (x i) :=
  isReal_of_cmp _ (Host.reduce_andi_all _ _ _ _ j e i)

attribute [local instance] Cert.Pre_finite.Gen.facts

/-- The precondition, array by array. -/
theorem finite_real (a0 : FVec Ideal S2x16384x1024 .f32) (a1 a2 a3 : FVec Ideal S1024 .f32) (a4 : FVec Ideal S1024x3072 .f32) (a5 : FVec Ideal S3072 .f32)
    (a6 : FVec Ideal S16x15x31 .f32) (a7 : FVec Ideal S1024x1024 .f32) (a8 : FVec Ideal S1024 .f32) (a9 a10 : FVec Ideal S1024x2816 .f32) (a11 : FVec Ideal S2816x1024 .f32)
    (h : fn (F := Ideal) a0 a1 a2 a3 a4 a5 a6 a7 a8 a9 a10 a11 = fun _ => 1#1) :
    (∀ i, IsReal (a1 i)) ∧ (∀ i, IsReal (a4 i)) ∧ (∀ i, IsReal (a5 i)) ∧ (∀ i, IsReal (a6 i)) := by
  have h := congrFun h (fun i => i.elim0)
  obtain ⟨h, h6⟩ := IntOp.andi_eq_one.1 h
  obtain ⟨h, h5⟩ := IntOp.andi_eq_one.1 h
  obtain ⟨h1, h4⟩ := IntOp.andi_eq_one.1 h
  exact ⟨all_real a1 Cert.Pre_finite.Gen.bcast_S_S1024 Cert.Pre_finite.Gen.reducesTo_S1024_S_d0 (fun i => i.elim0) h1, all_real a4 Cert.Pre_finite.Gen.bcast_S_S1024x3072 Cert.Pre_finite.Gen.reducesTo_S1024x3072_S_d0_1 (fun i => i.elim0) h4, all_real a5 Cert.Pre_finite.Gen.bcast_S_S3072 Cert.Pre_finite.Gen.reducesTo_S3072_S_d0 (fun i => i.elim0) h5, all_real a6 Cert.Pre_finite.Gen.bcast_S_S16x15x31 Cert.Pre_finite.Gen.reducesTo_S16x15x31_S_d0_1_2 (fun i => i.elim0) h6⟩

theorem ofBits_1024 : Ideal.ofBits .f32 0x44800000#32 = ((1024 : ℝ) : EReal) := by
  simp [Ideal.ofBits, Ideal.ieee, -EReal.coe_mul]
  norm_num

theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The square of an extended real is not negative. -/
theorem mul_self_nonneg_ereal (x : EReal) : 0 ≤ x * x := by
  induction x using EReal.rec with
  | bot => simp
  | coe r => rw [← EReal.coe_mul]; exact_mod_cast mul_self_nonneg r
  | top => simp

/-- The square of an extended real that is no real number is infinite. -/
theorem mul_self_top {x : EReal} (h : ¬ IsReal x) : x * x = ⊤ := by
  induction x using EReal.rec with
  | bot => simp
  | coe r => exact absurd (IsReal.coe r) h
  | top => simp

/-- The normalisation of any row by a real gain is real: a row with an infinite entry is scaled by zero. -/
theorem rms_real (x g : Fin 1024 → EReal) (hg : ∀ k, IsReal (g k)) (k : Fin 1024) : IsReal (rms x g k) := by
  unfold rms
  obtain ⟨e, he, ee⟩ := ofBits_eps
  rw [ee, ofBits_1024]
  refine IsReal.mul ?_ (hg k)
  by_cases hx : ∀ k, IsReal (x k)
  · choose xr hx using hx
    refine (hx k ▸ IsReal.coe _).mul ?_
    simp only [hx, ← EReal.coe_mul]
    rw [← coe_sum, div_coe_coe _ (by norm_num), ← EReal.coe_add, Ideal.rsqrt_coe]
    have hp : 0 < (∑ k, xr k * xr k) / 1024 + e :=
      add_pos_of_nonneg_of_pos (div_nonneg (Finset.sum_nonneg fun k _ => mul_self_nonneg _) (by norm_num)) he
    rw [if_neg (not_lt.2 hp.le), if_neg hp.ne']
    exact IsReal.coe _
  · obtain ⟨j, hj⟩ := not_forall.1 hx
    have hs : ∑ k, x k * x k = ⊤ :=
      top_le_iff.1 ((mul_self_top hj).symm.le.trans
        (Finset.single_le_sum (f := fun k => x k * x k) (fun k _ => mul_self_nonneg_ereal _) (Finset.mem_univ j)))
    have hd : Ideal.div ⊤ ((1024 : ℝ) : EReal) = ⊤ := by
      rw [Ideal.div, if_neg (by norm_num), ← EReal.coe_inv, EReal.top_mul_coe_of_pos (by norm_num)]
    rw [hs, hd, EReal.top_add_coe]
    refine ⟨0, ?_⟩
    show x k * Ideal.rsqrt ⊤ = _
    rw [show Ideal.rsqrt ⊤ = 0 from rfl, mul_zero, EReal.coe_zero]

/-- The projection of any rows by real weights is real. -/
theorem z_real (A : Args) (hg : ∀ k, IsReal (A.gmix k)) (hw : ∀ k n, IsReal (A.wqkv k n))
    (hb : ∀ n, IsReal (A.bqkv n)) (b : Fin 2) (t : Fin 16384) (n : Fin 3072) : IsReal (A.z b t n) :=
  (IsReal.sum _ _ fun d => (rms_real _ _ hg d).mul (hw d n)).add (hb n)

end Cert.Layer

end
-- ==== Proof.RefGather.lean ====
/- The reference's three gathers read at an index. -/
module

public import proofs.«01_k».proof.Proof.Spec
public import proofs.«01_k».proof.Proof.Gen.ReferenceIdeal.Run
public import Idealize.ShloMosaic.Lib.Pointwise
public import Idealize.ShloMosaic.Lib.StableHlo.Predicate

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Layer

/-- A small word read signed and clamped is itself. -/
theorem clamp_word (p m : ℕ) (hp : p ≤ m) (hm : m < 2 ^ 31) : min (BitVec.ofNat 32 p).toInt.toNat m = p := by
  have h : (BitVec.ofNat 32 p).toNat = p := by simp; omega
  rw [StableHlo.Predicate.toInt_eq_toNat_of_lt (by omega), h]
  simpa using hp

/-- The gather of key rows: row `p` where the index word is `p`. -/
theorem rows_at {α : Type} (X : S2x256x64x16x64.Idx → α) (I : IVec S256x8x1 32) (b : Fin 2) (r : Fin 256) (i : Fin 8) (c : Fin 64)
    (h : Fin 16) (d : Fin 64) (p : Fin 256) (hp : I (ix3 r i 0) = BitVec.ofNat 32 p.val) :
    Host.gather gather_S2x256x64x16x64_S256x8x1_S2x256x8x64x16x64_0345_1_n_n_1_2_21641664 X I (ix6 b r i c h d)
      = X (ix5 b p c h d) := by
  unfold Host.gather
  congr 1
  funext a
  apply Fin.ext
  fin_cases a
  · simp [GatherDims.operandIdx, GatherDims.start, GatherDims.batchCoord, GatherDims.offCoord]
    rw [dif_neg (by decide +kernel), dif_neg (by decide +kernel), if_pos (by decide +kernel)]
    simp
  · show min (I _).toInt.toNat 255 = p.val
    rw [show GatherDims.siIdx _ (ix6 b r i c h d) _ = ix3 r i 0 from ?_, hp, clamp_word p.val 255 (by omega) (by omega)]
    funext a
    apply Fin.ext
    fin_cases a
    · simp [GatherDims.siIdx, GatherDims.siCoord]
      exact (congrArg Fin.val (dif_neg (by decide))).trans rfl
    · simp [GatherDims.siIdx, GatherDims.siCoord]
      exact (congrArg Fin.val (dif_neg (by decide))).trans rfl
    · rfl
  · simp [GatherDims.operandIdx, GatherDims.start, GatherDims.batchCoord, GatherDims.offCoord]
    rw [dif_neg (by decide +kernel), dif_neg (by decide +kernel), if_pos (by decide +kernel)]
    simp
  · simp [GatherDims.operandIdx, GatherDims.start, GatherDims.batchCoord, GatherDims.offCoord]
    rw [dif_neg (by decide +kernel), dif_neg (by decide +kernel), if_pos (by decide +kernel)]
    simp
  · simp [GatherDims.operandIdx, GatherDims.start, GatherDims.batchCoord, GatherDims.offCoord]
    rw [dif_neg (by decide +kernel), dif_neg (by decide +kernel), if_pos (by decide +kernel)]
    simp

/-- The gather of key columns: column `p` where the index word is `p`. -/
theorem cols_at {α : Type} (X : S2x256x8x64x16x64.Idx → α) (I : IVec S64x16x1 32) (b : Fin 2) (r : Fin 256) (i : Fin 8) (c : Fin 64)
    (j : Fin 16) (h : Fin 16) (d : Fin 64) (p : Fin 64) (hp : I (ix3 c j 0) = BitVec.ofNat 32 p.val) :
    Host.gather gather_S2x256x8x64x16x64_S64x16x1_S2x256x8x64x16x16x64_01256_3_n_n_3_2_2256811664 X I (ix7 b r i c j h d)
      = X (ix6 b r i p h d) := by
  unfold Host.gather
  congr 1
  funext a
  apply Fin.ext
  fin_cases a
  · simp [GatherDims.operandIdx, GatherDims.start, GatherDims.batchCoord, GatherDims.offCoord]
    rw [dif_neg (by decide +kernel), dif_neg (by decide +kernel), if_pos (by decide +kernel)]
    simp
  · simp [GatherDims.operandIdx, GatherDims.start, GatherDims.batchCoord, GatherDims.offCoord]
    rw [dif_neg (by decide +kernel), dif_neg (by decide +kernel), if_pos (by decide +kernel)]
    simp
  · simp [GatherDims.operandIdx, GatherDims.start, GatherDims.batchCoord, GatherDims.offCoord]
    rw [dif_neg (by decide +kernel), dif_neg (by decide +kernel), if_pos (by decide +kernel)]
    simp
  · show min (I _).toInt.toNat 63 = p.val
    rw [show GatherDims.siIdx _ (ix7 b r i c j h d) _ = ix3 c j 0 from ?_, hp, clamp_word p.val 63 (by omega) (by omega)]
    funext a
    apply Fin.ext
    fin_cases a
    · simp [GatherDims.siIdx, GatherDims.siCoord]
      exact (congrArg Fin.val (dif_neg (by decide))).trans rfl
    · simp [GatherDims.siIdx, GatherDims.siCoord]
      exact (congrArg Fin.val (dif_neg (by decide))).trans rfl
    · rfl
  · simp [GatherDims.operandIdx, GatherDims.start, GatherDims.batchCoord, GatherDims.offCoord]
    rw [dif_neg (by decide +kernel), dif_neg (by decide +kernel), if_pos (by decide +kernel)]
    simp
  · simp [GatherDims.operandIdx, GatherDims.start, GatherDims.batchCoord, GatherDims.offCoord]
    rw [dif_neg (by decide +kernel), dif_neg (by decide +kernel), if_pos (by decide +kernel)]
    simp

theorem bias_si (h : Fin 16) (r : Fin 256) (c : Fin 64) (i : Fin 8) (j : Fin 16)
    (k : Fin (GatherDims.startIndexMap gather_S16x15x31_S256x64x8x16x2_S16x256x64x8x16_0_12_n_n_12_4_1611).length) :
    GatherDims.siIdx gather_S16x15x31_S256x64x8x16x2_S16x256x64x8x16_0_12_n_n_12_4_1611 (ix5 h r c i j) k = ix5 r c i j ⟨k.val, k.isLt⟩ := by
  funext a
  apply Fin.ext
  fin_cases a
  · simp [GatherDims.siIdx, GatherDims.siCoord]
    exact (congrArg Fin.val (dif_neg (by decide))).trans rfl
  · simp [GatherDims.siIdx, GatherDims.siCoord]
    exact (congrArg Fin.val (dif_neg (by decide))).trans rfl
  · simp [GatherDims.siIdx, GatherDims.siCoord]
    exact (congrArg Fin.val (dif_neg (by decide))).trans rfl
  · simp [GatherDims.siIdx, GatherDims.siCoord]
    exact (congrArg Fin.val (dif_neg (by decide))).trans rfl
  · rfl

/-- The gather of biases: row offset `p` and column offset `q` where the index words are these. -/
theorem bias_at {α : Type} (X : S16x15x31.Idx → α) (I : IVec S256x64x8x16x2 32) (h : Fin 16) (r : Fin 256) (c : Fin 64) (i : Fin 8)
    (j : Fin 16) (p : Fin 15) (q : Fin 31) (hp : I (ix5 r c i j 0) = BitVec.ofNat 32 p.val)
    (hq : I (ix5 r c i j 1) = BitVec.ofNat 32 q.val) :
    Host.gather gather_S16x15x31_S256x64x8x16x2_S16x256x64x8x16_0_12_n_n_12_4_1611 X I (ix5 h r c i j)
      = X (ix3 h p q) := by
  unfold Host.gather
  congr 1
  funext a
  apply Fin.ext
  fin_cases a
  · simp [GatherDims.operandIdx, GatherDims.start, GatherDims.batchCoord, GatherDims.offCoord]
    rw [dif_neg (by decide +kernel), dif_neg (by decide +kernel), if_pos (by decide +kernel)]
    simp
  · show min (I (GatherDims.siIdx _ (ix5 h r c i j) ⟨0, by decide⟩)).toInt.toNat 14 = p.val
    rw [bias_si]; erw [hp]; rw [clamp_word p.val 14 (by omega) (by omega)]
  · show min (I (GatherDims.siIdx _ (ix5 h r c i j) ⟨1, by decide⟩)).toInt.toNat 30 = q.val
    rw [bias_si]; erw [hq]; rw [clamp_word q.val 30 (by omega) (by omega)]

end Cert.ReferenceIdeal.Value

end
-- ==== Proof.RefIndex.lean ====
/- The reference's window indices. -/
module

public import proofs.«01_k».proof.Proof.RefGather

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Layer

variable (L : Valuation τ sig (Elt Ideal))

/-- The window's row `i` of query row `r`. -/
def winRow (r : Fin 256) (i : Fin 8) : Fin 256 := ⟨min (r.val - 4) 248 + i.val, by omega⟩

/-- The window's column `j` of query column `c`. -/
def winCol (c : Fin 64) (j : Fin 16) : Fin 64 := ⟨min (c.val - 8) 48 + j.val, by omega⟩

theorem v34_at (c : Fin 64) (j : Fin 16) : res_main_v34 L (ix2 c j) = BitVec.ofNat 32 (winCol c j).val := by
  unfold res_main_v34 res_main_v25
  pointwise
  have key : ∀ (c : Fin 64) (j : Fin 16), IntOp.addi (IntOp.minsi 48#32 (IntOp.maxsi 0#32 (IntOp.subi (BitVec.ofNat 32 c.val) 8#32))) (BitVec.ofNat 32 j.val)
      = BitVec.ofNat 32 (winCol c j).val := by
    decide +kernel
  exact key c j

theorem v49_at (r : Fin 256) (i : Fin 8) : res_main_v49 L (ix2 r i) = BitVec.ofNat 32 (winRow r i).val := by
  unfold res_main_v49 res_main_v40
  pointwise
  have key : ∀ (r : Fin 256) (i : Fin 8), IntOp.addi (IntOp.minsi 248#32 (IntOp.maxsi 0#32 (IntOp.subi (BitVec.ofNat 32 r.val) 4#32))) (BitVec.ofNat 32 i.val)
      = BitVec.ofNat 32 (winRow r i).val := by
    decide +kernel
  exact key r i

/-- The index words of the key columns. -/
theorem colsIdx_at (c : Fin 64) (j : Fin 16) :
    (broadcastInDim S64x16x1 ![0, 1] bcast_S64x16_S64x16x1_0_1 (select (cmpi .slt (res_main_v34 L) (broadcastInDim S64x16 ![] bcast_S_S64x16 (constantI S_ 32 0#32))) (addi (res_main_v34 L) (broadcastInDim S64x16 ![] bcast_S_S64x16 (constantI S_ 32 64#32))) (res_main_v34 L))) (ix3 c j 0)
      = BitVec.ofNat 32 (winCol c j).val := by
  pointwise
  rw [v34_at]
  revert c j
  decide +kernel

/-- The index words of the key rows. -/
theorem rowsIdx_at (r : Fin 256) (i : Fin 8) :
    (broadcastInDim S256x8x1 ![0, 1] bcast_S256x8_S256x8x1_0_1 (select (cmpi .slt (res_main_v49 L) (broadcastInDim S256x8 ![] bcast_S_S256x8 (constantI S_ 32 0#32))) (addi (res_main_v49 L) (broadcastInDim S256x8 ![] bcast_S_S256x8 (constantI S_ 32 256#32))) (res_main_v49 L))) (ix3 r i 0)
      = BitVec.ofNat 32 (winRow r i).val := by
  pointwise
  rw [v49_at]
  revert r i
  decide +kernel

/-- The row offset into the biases. -/
def rowOff (r : Fin 256) (i : Fin 8) : Fin 15 := ⟨(winRow r i).val + 7 - r.val, by simp only [winRow]; omega⟩

/-- The column offset into the biases. -/
def colOff (c : Fin 64) (j : Fin 16) : Fin 31 := ⟨(winCol c j).val + 15 - c.val, by simp only [winCol]; omega⟩

theorem v84_at (r : Fin 256) (i : Fin 8) : res_main_v84 L (ix4 r 0 i 0) = BitVec.ofNat 32 (rowOff r i).val := by
  unfold res_main_v84
  pointwise
  rw [v49_at]
  unfold res_main_v40
  pointwise
  have key : ∀ (r : Fin 256) (i : Fin 8), IntOp.addi (IntOp.subi (BitVec.ofNat 32 (winRow r i).val) (BitVec.ofNat 32 r.val)) 7#32
      = BitVec.ofNat 32 (rowOff r i).val := by
    decide +kernel
  exact key r i

theorem v85_at (c : Fin 64) (j : Fin 16) : res_main_v85 L (ix4 0 c 0 j) = BitVec.ofNat 32 (colOff c j).val := by
  unfold res_main_v85
  pointwise
  rw [v34_at]
  unfold res_main_v25
  pointwise
  have key : ∀ (c : Fin 64) (j : Fin 16), IntOp.addi (IntOp.subi (BitVec.ofNat 32 (winCol c j).val) (BitVec.ofNat 32 c.val)) 15#32
      = BitVec.ofNat 32 (colOff c j).val := by
    decide +kernel
  exact key c j

theorem rowOffIdx_at (r : Fin 256) (i : Fin 8) :
    Scalar.select (IntOp.cmpi CmpIPredicate.slt (BitVec.ofNat 32 (rowOff r i).val) 0#32)
      (IntOp.addi (BitVec.ofNat 32 (rowOff r i).val) 15#32) (BitVec.ofNat 32 (rowOff r i).val) = BitVec.ofNat 32 (rowOff r i).val := by
  revert r i
  decide +kernel

theorem colOffIdx_at (c : Fin 64) (j : Fin 16) :
    Scalar.select (IntOp.cmpi CmpIPredicate.slt (BitVec.ofNat 32 (colOff c j).val) 0#32)
      (IntOp.addi (BitVec.ofNat 32 (colOff c j).val) 31#32) (BitVec.ofNat 32 (colOff c j).val) = BitVec.ofNat 32 (colOff c j).val := by
  revert c j
  decide +kernel

/-- The index words of the biases. -/
theorem rowWord_at (r : Fin 256) (c : Fin 64) (i : Fin 8) (j : Fin 16) :
    (concatenate S256x64x8x16x2 4 [⟨S256x64x8x16x1, (broadcastInDim S256x64x8x16x1 ![0, 1, 2, 3] bcast_S256x64x8x16_S256x64x8x16x1_0_1_2_3 (broadcastInDim S256x64x8x16 ![0, 1, 2, 3] bcast_S256x1x8x1_S256x64x8x16_0_1_2_3 (select (cmpi .slt (res_main_v84 L) (broadcastInDim S256x1x8x1 ![] bcast_S_S256x1x8x1 (constantI S_ 32 0#32))) (addi (res_main_v84 L) (broadcastInDim S256x1x8x1 ![] bcast_S_S256x1x8x1 (constantI S_ 32 15#32))) (res_main_v84 L))))⟩, ⟨S256x64x8x16x1, (broadcastInDim S256x64x8x16x1 ![0, 1, 2, 3] bcast_S256x64x8x16_S256x64x8x16x1_0_1_2_3 (broadcastInDim S256x64x8x16 ![0, 1, 2, 3] bcast_S1x64x1x16_S256x64x8x16_0_1_2_3 (select (cmpi .slt (res_main_v85 L) (broadcastInDim S1x64x1x16 ![] bcast_S_S1x64x1x16 (constantI S_ 32 0#32))) (addi (res_main_v85 L) (broadcastInDim S1x64x1x16 ![] bcast_S_S1x64x1x16 (constantI S_ 32 31#32))) (res_main_v85 L))))⟩] concatenates_S256x64x8x16x1_S256x64x8x16x1_S256x64x8x16x2_d4) (ix5 r c i j 0)
      = BitVec.ofNat 32 (rowOff r i).val := by
  pointwise
  rw [v84_at]
  exact rowOffIdx_at _ _

theorem colWord_at (r : Fin 256) (c : Fin 64) (i : Fin 8) (j : Fin 16) :
    (concatenate S256x64x8x16x2 4 [⟨S256x64x8x16x1, (broadcastInDim S256x64x8x16x1 ![0, 1, 2, 3] bcast_S256x64x8x16_S256x64x8x16x1_0_1_2_3 (broadcastInDim S256x64x8x16 ![0, 1, 2, 3] bcast_S256x1x8x1_S256x64x8x16_0_1_2_3 (select (cmpi .slt (res_main_v84 L) (broadcastInDim S256x1x8x1 ![] bcast_S_S256x1x8x1 (constantI S_ 32 0#32))) (addi (res_main_v84 L) (broadcastInDim S256x1x8x1 ![] bcast_S_S256x1x8x1 (constantI S_ 32 15#32))) (res_main_v84 L))))⟩, ⟨S256x64x8x16x1, (broadcastInDim S256x64x8x16x1 ![0, 1, 2, 3] bcast_S256x64x8x16_S256x64x8x16x1_0_1_2_3 (broadcastInDim S256x64x8x16 ![0, 1, 2, 3] bcast_S1x64x1x16_S256x64x8x16_0_1_2_3 (select (cmpi .slt (res_main_v85 L) (broadcastInDim S1x64x1x16 ![] bcast_S_S1x64x1x16 (constantI S_ 32 0#32))) (addi (res_main_v85 L) (broadcastInDim S1x64x1x16 ![] bcast_S_S1x64x1x16 (constantI S_ 32 31#32))) (res_main_v85 L))))⟩] concatenates_S256x64x8x16x1_S256x64x8x16x1_S256x64x8x16x2_d4) (ix5 r c i j 1)
      = BitVec.ofNat 32 (colOff c j).val := by
  pointwise
  rw [v85_at]
  exact colOffIdx_at _ _

end Cert.ReferenceIdeal.Value

end
-- ==== Proof.RefLogit.lean ====
/- The reference's logits at an index. -/
module

public import proofs.«01_k».proof.Proof.RefIndex
public import Idealize.ShloMosaic.Lib.Tactic.CleanTypes

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Layer

variable (L : Valuation τ sig (Elt Ideal))

/-- The arguments of the launch, as functions. -/
def rargs : Args where
  x := fun b t k => L (Proc.devRef .tc main_arg0) (ix3 b t k)
  gmix := fun k => L (Proc.devRef .tc main_arg1) (ix1 k)
  gffn := fun k => L (Proc.devRef .tc main_arg2) (ix1 k)
  gfin := fun k => L (Proc.devRef .tc main_arg3) (ix1 k)
  wqkv := fun k n => L (Proc.devRef .tc main_arg4) (ix2 k n)
  bqkv := fun n => L (Proc.devRef .tc main_arg5) (ix1 n)
  rpb := fun h e l => L (Proc.devRef .tc main_arg6) (ix3 h e l)
  wo := fun k n => L (Proc.devRef .tc main_arg7) (ix2 k n)
  bo := fun n => L (Proc.devRef .tc main_arg8) (ix1 n)
  wg := fun k f => L (Proc.devRef .tc main_arg9) (ix2 k f)
  wu := fun k f => L (Proc.devRef .tc main_arg10) (ix2 k f)
  wd := fun f n => L (Proc.devRef .tc main_arg11) (ix2 f n)

/-- Queries, keys and values. -/
theorem v16_at (b : Fin 2) (t : Fin 16384) (n : Fin 3072) : res_main_v16 L (ix3 b t n) = (rargs L).z b t n := by
  unfold res_main_v16
  clean_types
  pointwise
  rfl

/-- The token at a row and a column. -/
def tokOf (r : Fin 256) (c : Fin 64) : Fin 16384 := ⟨r.val * 64 + c.val, by omega⟩

/-- A position's logit in head `h` at window place `w`. -/
def logit (A : Args) (b : Fin 2) (h : Fin 16) (r : Fin 256) (c : Fin 64) (w : Fin 128) : EReal :=
  (∑ d : Fin 64, A.z b (tokOf r c) ⟨h.val * 64 + d.val, by omega⟩ * Ideal.ofBits .f32 0x3E000000#32
      * A.z b (tokOf (winRow r ⟨w.val / 16, by omega⟩) (winCol c ⟨w.val % 16, by omega⟩)) ⟨1024 + (h.val * 64 + d.val), by omega⟩)
    + A.rpb h (rowOff r ⟨w.val / 16, by omega⟩) (colOff c ⟨w.val % 16, by omega⟩)

/-- The gathered keys or values at window place `(i, j)`: the row's own array at the window's token. -/
theorem kv_at (o : ℕ) (ho : o + 1024 ≤ 3072) (sl : S2x16384x3072.Slices ![0, 0, o] S2x16384x1024) (b : Fin 2) (r : Fin 256) (i : Fin 8)
    (c : Fin 64) (j : Fin 16) (h : Fin 16) (d : Fin 64) :
    Host.gather gather_S2x256x8x64x16x64_S64x16x1_S2x256x8x64x16x16x64_01256_3_n_n_3_2_2256811664
      (Host.gather gather_S2x256x64x16x64_S256x8x1_S2x256x8x64x16x64_0345_1_n_n_1_2_21641664
        (shapeCast S2x256x64x16x64 (extractStridedSlice S2x16384x1024 ![0, 0, o] (res_main_v16 L) sl)
          shapeCasts_S2x16384x1024_S2x256x64x16x64)
        (broadcastInDim S256x8x1 ![0, 1] bcast_S256x8_S256x8x1_0_1 (select (cmpi .slt (res_main_v49 L) (broadcastInDim S256x8 ![] bcast_S_S256x8 (constantI S_ 32 0#32))) (addi (res_main_v49 L) (broadcastInDim S256x8 ![] bcast_S_S256x8 (constantI S_ 32 256#32))) (res_main_v49 L))))
      (broadcastInDim S64x16x1 ![0, 1] bcast_S64x16_S64x16x1_0_1 (select (cmpi .slt (res_main_v34 L) (broadcastInDim S64x16 ![] bcast_S_S64x16 (constantI S_ 32 0#32))) (addi (res_main_v34 L) (broadcastInDim S64x16 ![] bcast_S_S64x16 (constantI S_ 32 64#32))) (res_main_v34 L)))
      (ix7 b r i c j h d)
    = (rargs L).z b (tokOf (winRow r i) (winCol c j)) ⟨o + (h.val * 64 + d.val), by omega⟩ := by
  rw [cols_at _ _ b r i c j h d (winCol c j) (colsIdx_at L c j), rows_at _ _ b r i (winCol c j) h d (winRow r i) (rowsIdx_at L r i)]
  pointwise
  exact v16_at L _ _ _

theorem v105_at (b : Fin 2) (h : Fin 16) (r : Fin 256) (c : Fin 64) (w : Fin 128) :
    res_main_v105 L (ix5 b h r c w) = logit (rargs L) b h r c w := by
  unfold res_main_v105
  clean_types
  pointwise
  rw [bias_at _ _ h r c _ _ _ _ (rowWord_at L r c ⟨w.val / 16, by omega⟩ ⟨w.val % 16, by omega⟩) (colWord_at L r c ⟨w.val / 16, by omega⟩ ⟨w.val % 16, by omega⟩)]
  simp only [v16_at, kv_at L 1024 (by decide)]
  unfold logit
  refine congrArg₂ (fun a b : EReal => a + b) (Finset.sum_congr rfl fun d _ => ?_) ?_
  · rfl
  · rfl

end Cert.ReferenceIdeal.Value
end
-- ==== Proof.RefAttend.lean ====
/- The reference's exponentials and attended rows at an index. -/
module

public import proofs.«01_k».proof.Proof.RefLogit

@[expose] public section
set_option maxRecDepth 16384
noncomputable section
namespace Cert.ReferenceIdeal.Value
open Idealize.ShloMosaic Idealize.ShloMosaic.TcCoe Idealize.SL.Sem
open Cert.ReferenceIdeal Cert.ReferenceIdeal.Gen Cert.Layer
/-- The largest logit of a position. -/
theorem mx_at (X : FVec Ideal S2x16x256x64x128 .f32) (b : Fin 2) (h : Fin 16) (r : Fin 256) (c : Fin 64) :
    Host.reduce FloatOps.maximumf X (constant (F := Ideal) S_ .f32 0xFF800000#32) reducesTo_S2x16x256x64x128_S2x16x256x64_d4 h_S_ (ix4 b h r c)
      = Finset.univ.fold max (Ideal.ofBits .f32 0xFF800000#32) (fun w => X (ix5 b h r c w)) := by
  pointwise

theorem exp_at (X : FVec Ideal S2x16x256x64x128 .f32) (Y : FVec Ideal S2x16x256x64 .f32) (b : Fin 2) (h : Fin 16) (r : Fin 256) (c : Fin 64) (w : Fin 128) :
    (Host.exp (F := Ideal) (subf X (broadcastInDim S2x16x256x64x128 ![0, 1, 2, 3, 4] bcast_S2x16x256x64x1_S2x16x256x64x128_0_1_2_3_4 (broadcastInDim S2x16x256x64x1 ![0, 1, 2, 3] bcast_S2x16x256x64_S2x16x256x64x1_0_1_2_3 (maximumf (F := Ideal) (broadcastInDim S2x16x256x64 ![] bcast_S_S2x16x256x64 (constant S_ .f32 0xFF800000#32)) Y))))) (ix5 b h r c w)
      = Ideal.exp (X (ix5 b h r c w) - max (Ideal.ofBits .f32 0xFF800000#32) (Y (ix4 b h r c))) := by
  pointwise

variable (L : Valuation τ sig (Elt Ideal))

/-- A position's exponential in head `h` at window place `w`. -/
def expo (A : Args) (b : Fin 2) (h : Fin 16) (r : Fin 256) (c : Fin 64) (w : Fin 128) : EReal :=
  Ideal.exp (logit A b h r c w - Finset.univ.fold max ⊥ fun w => logit A b h r c w)

theorem expo_eq (X : FVec Ideal S2x16x256x64x128 .f32) (A : Args) (b : Fin 2) (h : Fin 16) (r : Fin 256) (c : Fin 64) (w : Fin 128)
   (e : ∀ w, X (ix5 b h r c w) = logit A b h r c w) :
   Ideal.exp (X (ix5 b h r c w) - max (Ideal.ofBits .f32 0xFF800000#32) (Finset.univ.fold max (Ideal.ofBits .f32 0xFF800000#32) (fun w => X (ix5 b h r c w)))) = expo A b h r c w := by
  rw [show (fun w => X (ix5 b h r c w)) = logit A b h r c from funext e, e, show Ideal.ofBits FTy.f32 4286578688#32 = ⊥ from by simp [Ideal.ofBits, Ideal.ieee], max_eq_right bot_le]
  rfl

theorem softexp_at (X : FVec Ideal S2x16x256x64x128 .f32) (A : Args) (b : Fin 2) (h : Fin 16) (r : Fin 256) (c : Fin 64) (w : Fin 128)
    (e : ∀ w, X (ix5 b h r c w) = logit A b h r c w) :
    (Host.exp (F := Ideal) (subf X (broadcastInDim S2x16x256x64x128 ![0, 1, 2, 3, 4] bcast_S2x16x256x64x1_S2x16x256x64x128_0_1_2_3_4 (broadcastInDim S2x16x256x64x1 ![0, 1, 2, 3] bcast_S2x16x256x64_S2x16x256x64x1_0_1_2_3 (maximumf (F := Ideal) (broadcastInDim S2x16x256x64 ![] bcast_S_S2x16x256x64 (constant S_ .f32 0xFF800000#32)) (Host.reduce FloatOps.maximumf X (constant (F := Ideal) S_ .f32 0xFF800000#32) reducesTo_S2x16x256x64x128_S2x16x256x64_d4 h_S_)))))) (ix5 b h r c w)
      = expo A b h r c w := by
  rw [exp_at, mx_at]
  exact expo_eq X A b h r c w e

/-- The exponentials. -/
theorem v112_at (b : Fin 2) (h : Fin 16) (r : Fin 256) (c : Fin 64) (w : Fin 128) :
    res_main_v112 L (ix5 b h r c w) = expo (rargs L) b h r c w :=
  softexp_at (res_main_v105 L) (rargs L) b h r c w (v105_at L b h r c)

/-- The attended rows, from the exponentials and the gathered values. -/
theorem attd_at (E : FVec Ideal S2x16x256x64x128 .f32) (G : FVec Ideal S2x256x8x64x16x16x64 .f32) (b : Fin 2) (t : Fin 16384) (n : Fin 1024) :
    (shapeCast S2x16384x1024 (Host.dotGeneral (F := Ideal) dot_S2x16x256x64x8x16_S2x256x8x64x16x16x64_S2x256x64x16x64_45_24_n_6_0231_0135 none (shapeCast S2x16x256x64x8x16 (Host.divf E (broadcastInDim S2x16x256x64x128 ![0, 1, 2, 3, 4] bcast_S2x16x256x64x1_S2x16x256x64x128_0_1_2_3_4 (broadcastInDim S2x16x256x64x1 ![0, 1, 2, 3] bcast_S2x16x256x64_S2x16x256x64x1_0_1_2_3 (Host.reduceAdd E (constant S_ .f32 0x00000000#32) reducesTo_S2x16x256x64x128_S2x16x256x64_d4 h_S_)))) shapeCasts_S2x16x256x64x128_S2x16x256x64x8x16) G) shapeCasts_S2x256x64x16x64_S2x16384x1024) (ix3 b t n)
      = ∑ i : Fin 8, ∑ j : Fin 16, Ideal.div (E (ix5 b ⟨n.val / 64, by omega⟩ ⟨t.val / 64, by omega⟩ ⟨t.val % 64, by omega⟩ ⟨i.val * 16 + j.val, by omega⟩))
          (∑ w : Fin 128, E (ix5 b ⟨n.val / 64, by omega⟩ ⟨t.val / 64, by omega⟩ ⟨t.val % 64, by omega⟩ w))
        * G (ix7 b ⟨t.val / 64, by omega⟩ i ⟨t.val % 64, by omega⟩ j ⟨n.val / 64, by omega⟩ ⟨n.val % 64, by omega⟩) := by
  pointwise

/-- The residual, from the rows and the attended rows. -/
theorem resid_at (x M : FVec Ideal S2x16384x1024 .f32) (w : FVec Ideal S1024x1024 .f32) (β : FVec Ideal S1024 .f32) (b : Fin 2) (t : Fin 16384) (n : Fin 1024) :
    (addf x (addf (Host.dotGeneral (F := Ideal) dot_S2x16384x1024_S1024x1024_S2x16384x1024_2_0_01_1_n_n none M w) (broadcastInDim S2x16384x1024 ![0, 1, 2] bcast_S1x1x1024_S2x16384x1024_0_1_2 (broadcastInDim S1x1x1024 ![2] bcast_S1024_S1x1x1024_2 β)))) (ix3 b t n)
      = resid (fun k => x (ix3 b t k)) (fun k => M (ix3 b t k)) (fun k n => w (ix2 k n)) (fun n => β (ix1 n)) n := by
  unfold resid
  pointwise

/-- The attended rows of the layer. -/
def ratt (A : Args) (b : Fin 2) (t : Fin 16384) (n : Fin 1024) : EReal :=
  ∑ i : Fin 8, ∑ j : Fin 16, Ideal.div (expo A b ⟨n.val / 64, by omega⟩ ⟨t.val / 64, by omega⟩ ⟨t.val % 64, by omega⟩ ⟨i.val * 16 + j.val, by omega⟩)
      (∑ w, expo A b ⟨n.val / 64, by omega⟩ ⟨t.val / 64, by omega⟩ ⟨t.val % 64, by omega⟩ w)
    * A.z b (tokOf (winRow ⟨t.val / 64, by omega⟩ i) (winCol ⟨t.val % 64, by omega⟩ j)) ⟨2048 + (n.val / 64 * 64 + n.val % 64), by omega⟩

theorem attd_eq (E : FVec Ideal S2x16x256x64x128 .f32) (G : FVec Ideal S2x256x8x64x16x16x64 .f32) (A : Args)
    (hE : ∀ b h r c w, E (ix5 b h r c w) = expo A b h r c w)
    (hG : ∀ (b : Fin 2) (r : Fin 256) (i : Fin 8) (c : Fin 64) (j : Fin 16) (h : Fin 16) (d : Fin 64),
      G (ix7 b r i c j h d) = A.z b (tokOf (winRow r i) (winCol c j)) ⟨2048 + (h.val * 64 + d.val), by omega⟩) (b : Fin 2) (t : Fin 16384) (n : Fin 1024) :
    (shapeCast S2x16384x1024 (Host.dotGeneral (F := Ideal) dot_S2x16x256x64x8x16_S2x256x8x64x16x16x64_S2x256x64x16x64_45_24_n_6_0231_0135 none (shapeCast S2x16x256x64x8x16 (Host.divf E (broadcastInDim S2x16x256x64x128 ![0, 1, 2, 3, 4] bcast_S2x16x256x64x1_S2x16x256x64x128_0_1_2_3_4 (broadcastInDim S2x16x256x64x1 ![0, 1, 2, 3] bcast_S2x16x256x64_S2x16x256x64x1_0_1_2_3 (Host.reduceAdd E (constant S_ .f32 0x00000000#32) reducesTo_S2x16x256x64x128_S2x16x256x64_d4 h_S_)))) shapeCasts_S2x16x256x64x128_S2x16x256x64x8x16) G) shapeCasts_S2x256x64x16x64_S2x16384x1024) (ix3 b t n)
      = ratt A b t n := by
  rw [attd_at]
  simp only [hE, hG]
  rfl

/-- The mixer's residual. -/
theorem v124_at (b : Fin 2) (t : Fin 16384) (n : Fin 1024) :
    res_main_v124 L (ix3 b t n) = resid ((rargs L).x b t) (ratt (rargs L) b t) (rargs L).wo (rargs L).bo n :=
  (resid_at (L (Proc.devRef .tc main_arg0)) _ (L (Proc.devRef .tc main_arg7)) (L (Proc.devRef .tc main_arg8)) b t n).trans
    (congrArg (fun a => resid ((rargs L).x b t) a (rargs L).wo (rargs L).bo n)
      (funext fun k => attd_eq (res_main_v112 L) _ (rargs L) (v112_at L) (kv_at L 2048 (by decide) _) b t k))

end Cert.ReferenceIdeal.Value

end
-- ==== Proof.RefTail.lean ====
/- The reference's feed-forward part and last normalisation at an index. -/
module

public import proofs.«01_k».proof.Proof.RefAttend

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Layer

/-- The normalisation of an array's rows. -/
theorem rms_at (y : FVec Ideal S2x16384x1024 .f32) (g : FVec Ideal S1024 .f32) (b : Fin 2) (t : Fin 16384) (n : Fin 1024) :
    (mulf (mulf y (broadcastInDim S2x16384x1024 ![0, 1, 2] bcast_S2x16384x1_S2x16384x1024_0_1_2 (Host.rsqrt (F := Ideal) (addf (Host.divf (broadcastInDim S2x16384x1 ![0, 1] bcast_S2x16384_S2x16384x1_0_1 (Host.reduceAdd (mulf y y) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (ix3 b t n)
      = rms (fun k => y (ix3 b t k)) (fun k => g (ix1 k)) n := by
  unfold rms
  pointwise

/-- The gated feed-forward part with its residual. -/
theorem ffn_at (y z h : FVec Ideal S2x16384x1024 .f32) (w : FVec Ideal S2x16384x2816 .f32) (wu : FVec Ideal S1024x2816 .f32) (wd : FVec Ideal S2816x1024 .f32)
    (b : Fin 2) (t : Fin 16384) (n : Fin 1024) :
    (addf y (Host.dotGeneral (F := Ideal) dot_S2x16384x2816_S2816x1024_S2x16384x1024_2_0_01_1_n_n none (mulf (mulf w (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf w))))) (Host.dotGeneral dot_S2x16384x1024_S1024x2816_S2x16384x2816_2_0_01_1_n_n none h wu)) wd)) (ix3 b t n)
      = y (ix3 b t n) + ∑ f, w (ix3 b t f) * Ideal.logistic (w (ix3 b t f)) * (∑ k, h (ix3 b t k) * wu (ix2 k f)) * wd (ix2 f n) := by
  pointwise
  rfl

theorem gate_at (h : FVec Ideal S2x16384x1024 .f32) (wg : FVec Ideal S1024x2816 .f32) (b : Fin 2) (t : Fin 16384) (f : Fin 2816) :
    (Host.dotGeneral (F := Ideal) dot_S2x16384x1024_S1024x2816_S2x16384x2816_2_0_01_1_n_n none h wg) (ix3 b t f) = ∑ k, h (ix3 b t k) * wg (ix2 k f) := by
  pointwise

variable (L : Valuation τ sig (Elt Ideal))

/-- The residual row. -/
def yrow (A : Args) (b : Fin 2) (t : Fin 16384) : Fin 1024 → EReal := resid (A.x b t) (ratt A b t) A.wo A.bo

theorem v137_at (b : Fin 2) (t : Fin 16384) (n : Fin 1024) :
    res_main_v137 L (ix3 b t n) = rms (yrow (rargs L) b t) (rargs L).gffn n :=
  (rms_at (res_main_v124 L) (L (Proc.devRef .tc main_arg2)) b t n).trans
    (congrArg (fun y => rms y (rargs L).gffn n) (funext fun k => v124_at L b t k))

theorem v138_at (b : Fin 2) (t : Fin 16384) (f : Fin 2816) :
    res_main_v138 L (ix3 b t f) = ∑ k, rms (yrow (rargs L) b t) (rargs L).gffn k * (rargs L).wg k f :=
  (gate_at (res_main_v137 L) (L (Proc.devRef .tc main_arg9)) b t f).trans
    (Finset.sum_congr rfl fun k _ => congrArg (fun a : EReal => a * (rargs L).wg k f) (v137_at L b t k))

theorem ffn_eq (A : Args) (y h : FVec Ideal S2x16384x1024 .f32) (w : FVec Ideal S2x16384x2816 .f32)
    (wu : FVec Ideal S1024x2816 .f32) (wd : FVec Ideal S2816x1024 .f32) (b : Fin 2) (t : Fin 16384) (n : Fin 1024)
    (hy : ∀ k, y (ix3 b t k) = yrow A b t k) (hh : ∀ k, h (ix3 b t k) = rms (yrow A b t) A.gffn k)
    (hw : ∀ f, w (ix3 b t f) = ∑ k, rms (yrow A b t) A.gffn k * A.wg k f)
    (hu : ∀ k f, wu (ix2 k f) = A.wu k f) (hd : ∀ f n, wd (ix2 f n) = A.wd f n) :
    y (ix3 b t n) + ∑ f, w (ix3 b t f) * Ideal.logistic (w (ix3 b t f)) * (∑ k, h (ix3 b t k) * wu (ix2 k f)) * wd (ix2 f n)
      = ffn (yrow A b t) A.gffn A.wg A.wu A.wd n := by
  simp only [hy, hh, hw, hu, hd]
  rfl

theorem v143_at (b : Fin 2) (t : Fin 16384) (n : Fin 1024) :
    res_main_v143 L (ix3 b t n) = ffn (yrow (rargs L) b t) (rargs L).gffn (rargs L).wg (rargs L).wu (rargs L).wd n :=
  (ffn_at (res_main_v124 L) (res_main_v124 L) (res_main_v137 L) (res_main_v138 L) (L (Proc.devRef .tc main_arg10)) (L (Proc.devRef .tc main_arg11)) b t n).trans
    (ffn_eq (rargs L) _ _ _ _ _ b t n (v124_at L b t) (v137_at L b t) (v138_at L b t) (fun _ _ => rfl) (fun _ _ => rfl))

/-- The reference's result at an index, from the arguments. -/
theorem v156_at (b : Fin 2) (t : Fin 16384) (n : Fin 1024) :
    (mulf (mulf (res_main_v143 L) (broadcastInDim S2x16384x1024 ![0, 1, 2] bcast_S2x16384x1_S2x16384x1024_0_1_2 (Host.rsqrt (F := Ideal) (addf (Host.divf (broadcastInDim S2x16384x1 ![0, 1] bcast_S2x16384_S2x16384x1_0_1 (Host.reduceAdd (mulf (res_main_v143 L) (res_main_v143 L)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (L (Proc.devRef .tc main_arg3))))) (ix3 b t n)
      = (rargs L).out (ratt (rargs L)) b t n :=
  (rms_at (res_main_v143 L) (L (Proc.devRef .tc main_arg3)) b t n).trans
    (congrArg (fun y => rms y (rargs L).gfin n) (funext fun k => v143_at L b t k))

end Cert.ReferenceIdeal.Value

end
-- ==== Proof.Qkv.lean ====
/- The first region: every row normalised and projected to queries (scaled), keys and values. -/
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

/-- The projected block at row `r`, column `n`. -/
theorem z_at (x : Vec Ideal S1024x1024 .f32) (g : Vec Ideal S1x1024 .f32) (w : Vec Ideal S1024x3072 .bf16)
    (b : Vec Ideal S1x3072 .f32) (r : Fin 1024) (n : Fin 3072) :
    k0_pay1 x g w b (ix2 r n)
      = proj (fun k => x (ix2 r k)) (fun k => g (ix2 0 k)) (fun k n => w (ix2 k n)) (fun n => b (ix2 0 n)) n := by
  pointwise [k0_pay1, proj, rms]

/-- The index maps of the region: block `t` of rows, every column. -/
theorem idx0 : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] := by
  decide +kernel

/-- Row `r` of the projection, from the arrays the region finds. -/
def zrow (c : Dev nD) (r : Fin 32768) (n : Fin 3072) : EReal :=
  proj (fun k => V c main_v0 (ix2 r k)) (fun k => V c main_v1 (ix2 0 k)) (fun k n => V c main_v2 (ix2 k n))
    (fun n => V c main_v3 (ix2 0 n)) n

/-- The kernel's block at point `t`, row `r` of the block, is row `1024 t + r` of the projection. -/
theorem z_blk (c : Dev nD) (t : Fin cfg0.N) (r : Fin 1024) (n : Fin 3072) (R : Fin 32768) (hR : R.val = t.val * 1024 + r.val) :
    k0_pay1 (iblk0 V c 0 t) (iblk0 V c 1 t) (iblk0 V c 2 t) (iblk0 V c 3 t) (ix2 r n) = zrow V c R n := by
  obtain ⟨e0, e1, e2, e3, -⟩ := idx0 t
  rw [z_at]
  unfold zrow
  congr 1 <;> (try funext a) <;> (try funext b) <;> blk_ext [iblk0, e0, e1, e2, e3, hR]

/-- The queries, in units in which the softmax is a power of two. -/
theorem q_final (c : Dev nD) : (dat0 V c).arrAt 4 cfg0.N
    = fun i : S32768x1024.Idx => zrow V c ⟨(i 0).val, (i 0).isLt⟩ ⟨(i 1).val, Nat.lt_trans (i 1).isLt (by decide)⟩
        * (((8 * (Real.log 2))⁻¹ : ℝ) : EReal) := by
  refine (dat0 V c).arrAt_eq_of_covers 4 _ (by decide +kernel) fun t hf y => ?_
  blk_simp; rw [after0_4]; frame_out
  idx_vars y
  obtain ⟨-, -, -, -, e, -⟩ := idx0 t
  pointwise [k0_pay2]
  rw [IdealRules.named_const.ideal_named_scalar _ _ _ _ rfl]
  congr 1
  exact (z_blk V c t y0 _ _ (by simp [e])).trans (congrArg (zrow V c _) (Fin.ext (by simp [e])))

/-- The keys. -/
theorem k_final (c : Dev nD) : (dat0 V c).arrAt 5 cfg0.N
    = fun i : S32768x1024.Idx => zrow V c ⟨(i 0).val, (i 0).isLt⟩ ⟨1024 + (i 1).val, Nat.lt_of_lt_of_le (Nat.add_lt_add_left (i 1).isLt 1024) (by decide)⟩ := by
  refine (dat0 V c).arrAt_eq_of_covers 5 _ (by decide +kernel) fun t hf y => ?_
  blk_simp; rw [after0_5]; frame_out
  idx_vars y
  obtain ⟨-, -, -, -, -, e, -⟩ := idx0 t
  pointwise [k0_pay3]
  exact (z_blk V c t y0 _ _ (by simp [e])).trans (congrArg (zrow V c _) (Fin.ext (by simp [e])))

/-- The values. -/
theorem v_final (c : Dev nD) : (dat0 V c).arrAt 6 cfg0.N
    = fun i : S32768x1024.Idx => zrow V c ⟨(i 0).val, (i 0).isLt⟩ ⟨2048 + (i 1).val, Nat.lt_of_lt_of_le (Nat.add_lt_add_left (i 1).isLt 2048) (by decide)⟩ := by
  refine (dat0 V c).arrAt_eq_of_covers 6 _ (by decide +kernel) fun t hf y => ?_
  blk_simp; rw [after0_6]; frame_out
  idx_vars y
  obtain ⟨-, -, -, -, -, -, e⟩ := idx0 t
  pointwise [k0_pay4]
  exact (z_blk V c t y0 _ _ (by simp [e])).trans (congrArg (zrow V c _) (Fin.ext (by simp [e])))

end Cert.KernelIdeal.Value

end
-- ==== Proof.Bias.lean ====
/- The second region: the table of relative-position biases, shifted along the columns and masked, one table for the
   first block of rows, one for the inner blocks, one for the last. -/
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Layer

/-- The first column of the window of column `c`. -/
def colStart (c : ℕ) : ℕ := min (c - 8) 48

/-- Lane `l` lies in the window of column `c`. -/
def colIn (c l : ℕ) : Bool := decide (colStart c ≤ l % 64 ∧ l % 64 < colStart c + 16)

/-- The mask of the columns at row `c`, lane `l`. -/
theorem colMask_at (c : Fin 64) (l : Fin 128) : k1_pay2 (ix2 c l) = BitVec.ofBool (colIn c.val l.val) := by
  revert c l
  pointwise [k1_pay2]
  decide +kernel

theorem mask_named : Named.named (F := Ideal) κ "mask" (φ := .f32) 0xF149F2CA#32 = ⊥ :=
  IdealRules.named_const.ideal_named_scalar _ _ _ _ rfl

theorem log2e_named : Named.named (F := Ideal) κ "log2e" (φ := .f32) 0x3FB8AA3B#32 = (((Real.log 2)⁻¹ : ℝ) : EReal) :=
  IdealRules.named_const.ideal_named_scalar _ _ _ _ rfl

/-- A tile with both of its key rows outside the window. -/
def maskTile : Vec Ideal S1x1x64x128 .f32 := k1_pay28 (F := Ideal) k1_pay21

/-- A tile with both of its key rows in the window. -/
def fullTile (v : Vec Ideal S1x1x128 .f32) : Vec Ideal S1x1x64x128 .f32 := k1_pay29 k1_pay2 (k1_pay4 v)

/-- A tile with its left key row in the window. -/
def leftTile (v : Vec Ideal S1x1x128 .f32) : Vec Ideal S1x1x64x128 .f32 := k1_pay76 k1_pay2 k1_pay3 (k1_pay4 v)

/-- A tile with its right key row in the window. -/
def rightTile (v : Vec Ideal S1x1x128 .f32) : Vec Ideal S1x1x64x128 .f32 := k1_pay57 k1_pay2 k1_pay3 (k1_pay4 v)

theorem maskTile_at (c : Fin 64) (l : Fin 128) : maskTile (ix4 0 0 c l) = ⊥ := by
  unfold maskTile
  pointwise [k1_pay28, k1_pay21]
  exact mask_named

/-- The lane of the table that lane `l` of row `c` reads: the tile is rotated by one lane more at each row. -/
def rotLane (c : Fin 64) (l : Fin 128) : Fin 128 := ⟨(l.val + 143 - c.val) % 128, by omega⟩

theorem rot_at (v : Vec Ideal S1x1x128 .f32) (c : Fin 64) (l : Fin 128) :
    k1_pay4 v (ix2 c l) = v (ix3 0 0 (rotLane c l)) * (((Real.log 2)⁻¹ : ℝ) : EReal) := by
  pointwise [k1_pay4]
  rw [log2e_named]
  congr 3
  apply Fin.ext
  simp only [rotLane]
  omega

/-- A lane of a tile: what the mask lets through. -/
def tileVal (v : Vec Ideal S1x1x128 .f32) (c : Fin 64) (l : Fin 128) (ok : Bool) : EReal :=
  if ok then v (ix3 0 0 (rotLane c l)) * (((Real.log 2)⁻¹ : ℝ) : EReal) else ⊥

theorem select_ofBool (b : Bool) (x y : EReal) : Scalar.select (BitVec.ofBool b) x y = if b then x else y := by
  cases b <;> rfl

theorem fullTile_at (v : Vec Ideal S1x1x128 .f32) (c : Fin 64) (l : Fin 128) :
    fullTile v (ix4 0 0 c l) = tileVal v c l (colIn c.val l.val) := by
  unfold fullTile
  pointwise [k1_pay29]
  rw [colMask_at, select_ofBool, rot_at, mask_named]; rfl

theorem left_bit : ∀ l : Fin 128, IntOp.cmpi .slt (BitVec.ofNat 32 l.val) 64#32 = BitVec.ofBool (decide (l.val < 64)) := by
  decide

theorem leftTile_at (v : Vec Ideal S1x1x128 .f32) (c : Fin 64) (l : Fin 128) :
    leftTile v (ix4 0 0 c l) = tileVal v c l (colIn c.val l.val && decide (l.val < 64)) := by
  unfold leftTile
  pointwise [k1_pay76, k1_pay3]
  rw [colMask_at, left_bit, show ∀ a b : Bool, IntOp.andi (BitVec.ofBool a) (BitVec.ofBool b) = BitVec.ofBool (a && b) by decide,
    select_ofBool, rot_at, mask_named]; rfl

theorem rightTile_at (v : Vec Ideal S1x1x128 .f32) (c : Fin 64) (l : Fin 128) :
    rightTile v (ix4 0 0 c l) = tileVal v c l (colIn c.val l.val && !decide (l.val < 64)) := by
  unfold rightTile
  pointwise [k1_pay57, k1_pay3]
  rw [colMask_at, left_bit, show ∀ b : Bool, IntOp.xori (BitVec.ofBool b) 1#1 = BitVec.ofBool (!b) by decide,
    show ∀ a b : Bool, IntOp.andi (BitVec.ofBool a) (BitVec.ofBool b) = BitVec.ofBool (a && b) by decide,
    select_ofBool, rot_at, mask_named]; rfl

set_option maxHeartbeats 2000000 in
/-- The block the body leaves is made of 72 tiles: three tables, four rows of queries, six pairs of key rows. -/
theorem out1_tiles (X : Vec Ideal S1x16x128 .f32) : out1_1 X = View.canon
      [⟨r1_85, fullTile (View.ld X r1_6)⟩,
       ⟨r1_84, fullTile (View.ld X r1_4)⟩,
       ⟨r1_83, fullTile (View.ld X r1_2)⟩,
       ⟨r1_82, fullTile (View.ld X r1_0)⟩,
       ⟨r1_81, maskTile⟩,
       ⟨r1_80, maskTile⟩,
       ⟨r1_79, fullTile (View.ld X r1_7)⟩,
       ⟨r1_78, fullTile (View.ld X r1_5)⟩,
       ⟨r1_77, fullTile (View.ld X r1_3)⟩,
       ⟨r1_76, fullTile (View.ld X r1_1)⟩,
       ⟨r1_75, maskTile⟩,
       ⟨r1_74, maskTile⟩,
       ⟨r1_73, fullTile (View.ld X r1_8)⟩,
       ⟨r1_72, fullTile (View.ld X r1_6)⟩,
       ⟨r1_71, fullTile (View.ld X r1_4)⟩,
       ⟨r1_70, fullTile (View.ld X r1_2)⟩,
       ⟨r1_69, maskTile⟩,
       ⟨r1_68, maskTile⟩,
       ⟨r1_67, fullTile (View.ld X r1_9)⟩,
       ⟨r1_66, fullTile (View.ld X r1_7)⟩,
       ⟨r1_65, fullTile (View.ld X r1_5)⟩,
       ⟨r1_64, fullTile (View.ld X r1_3)⟩,
       ⟨r1_63, maskTile⟩,
       ⟨r1_62, maskTile⟩,
       ⟨r1_61, leftTile (View.ld X r1_10)⟩,
       ⟨r1_60, fullTile (View.ld X r1_8)⟩,
       ⟨r1_59, fullTile (View.ld X r1_6)⟩,
       ⟨r1_58, fullTile (View.ld X r1_4)⟩,
       ⟨r1_57, rightTile (View.ld X r1_2)⟩,
       ⟨r1_56, maskTile⟩,
       ⟨r1_55, maskTile⟩,
       ⟨r1_54, fullTile (View.ld X r1_9)⟩,
       ⟨r1_53, fullTile (View.ld X r1_7)⟩,
       ⟨r1_52, fullTile (View.ld X r1_5)⟩,
       ⟨r1_51, fullTile (View.ld X r1_3)⟩,
       ⟨r1_50, maskTile⟩,
       ⟨r1_49, maskTile⟩,
       ⟨r1_48, leftTile (View.ld X r1_10)⟩,
       ⟨r1_47, fullTile (View.ld X r1_8)⟩,
       ⟨r1_46, fullTile (View.ld X r1_6)⟩,
       ⟨r1_45, fullTile (View.ld X r1_4)⟩,
       ⟨r1_44, rightTile (View.ld X r1_2)⟩,
       ⟨r1_43, maskTile⟩,
       ⟨r1_42, maskTile⟩,
       ⟨r1_41, fullTile (View.ld X r1_9)⟩,
       ⟨r1_40, fullTile (View.ld X r1_7)⟩,
       ⟨r1_39, fullTile (View.ld X r1_5)⟩,
       ⟨r1_38, fullTile (View.ld X r1_3)⟩,
       ⟨r1_37, maskTile⟩,
       ⟨r1_36, maskTile⟩,
       ⟨r1_35, fullTile (View.ld X r1_10)⟩,
       ⟨r1_34, fullTile (View.ld X r1_8)⟩,
       ⟨r1_33, fullTile (View.ld X r1_6)⟩,
       ⟨r1_32, fullTile (View.ld X r1_4)⟩,
       ⟨r1_31, maskTile⟩,
       ⟨r1_30, maskTile⟩,
       ⟨r1_29, fullTile (View.ld X r1_11)⟩,
       ⟨r1_28, fullTile (View.ld X r1_9)⟩,
       ⟨r1_27, fullTile (View.ld X r1_7)⟩,
       ⟨r1_26, fullTile (View.ld X r1_5)⟩,
       ⟨r1_25, maskTile⟩,
       ⟨r1_24, maskTile⟩,
       ⟨r1_23, fullTile (View.ld X r1_12)⟩,
       ⟨r1_22, fullTile (View.ld X r1_10)⟩,
       ⟨r1_21, fullTile (View.ld X r1_8)⟩,
       ⟨r1_20, fullTile (View.ld X r1_6)⟩,
       ⟨r1_19, maskTile⟩,
       ⟨r1_18, maskTile⟩,
       ⟨r1_17, fullTile (View.ld X r1_13)⟩,
       ⟨r1_16, fullTile (View.ld X r1_11)⟩,
       ⟨r1_15, fullTile (View.ld X r1_9)⟩,
       ⟨r1_14, fullTile (View.ld X r1_7)⟩] := rfl

/-- The first key row of the window of query row `ri` of a block, counted from the block's first key row. -/
def rowStart (T ri : ℕ) : ℕ := if T = 0 then 0 else if T = 1 then ri else 4

/-- Key row `k` lies in the window of query row `ri`. -/
def rowIn (T ri k : ℕ) : Bool := decide (rowStart T ri ≤ k ∧ k < rowStart T ri + 8)

/-- The bias tables as a function of table, query and key. -/
def biasTab (X : Vec Ideal S1x16x128 .f32) (T : Fin 3) (ρ : Fin 256) (κ : Fin 768) : EReal :=
  tileVal (fun i => X (ix3 0 ⟨(κ.val / 128 * 2 + 8 - (4 * T.val + ρ.val / 64)) % 16, by omega⟩ (i 2)))
    ⟨ρ.val % 64, by omega⟩ ⟨κ.val % 128, by omega⟩ (colIn (ρ.val % 64) (κ.val % 64) && rowIn T.val (ρ.val / 64) (κ.val / 64))

section Tab
variable (X : Vec Ideal S1x16x128 .f32) (v : Vec Ideal S1x1x128 .f32) (e : Fin 16) {T : Fin 3} {ρ : Fin 256} {κ : Fin 768}
  (n ri m : ℕ) {c : Fin 64} {l : Fin 128}

/-- The table at a tile's place, from the tile's row and the two key rows it holds. -/
theorem tab_at (hv : ∀ l, v (ix3 0 0 l) = X (ix3 0 e l)) (hT : T.val = n) (hρ : ρ.val = ri * 64 + c.val) (hκ : κ.val = m * 128 + l.val)
    (he : e.val = (m * 2 + 8 - (4 * n + ri)) % 16) :
    biasTab X T ρ κ = tileVal v c l (colIn c.val l.val && (if l.val < 64 then rowIn n ri (2 * m) else rowIn n ri (2 * m + 1))) := by
  have h1 : ρ.val / 64 = ri := by omega
  have h2 : κ.val / 128 = m := by omega
  have h3 : (⟨ρ.val % 64, by omega⟩ : Fin 64) = c := Fin.ext (by dsimp only; omega)
  have h4 : (⟨κ.val % 128, by omega⟩ : Fin 128) = l := Fin.ext (by dsimp only; omega)
  have h5 : ρ.val % 64 = c.val := by omega
  have h6 : (⟨(m * 2 + 8 - (4 * n + ri)) % 16, by omega⟩ : Fin 16) = e := Fin.ext he.symm
  have h7 : colIn c.val (κ.val % 64) = colIn c.val l.val := by
    unfold colIn; rw [show κ.val % 64 % 64 = l.val % 64 by omega]
  have h8 : rowIn n ri (κ.val / 64) = if l.val < 64 then rowIn n ri (2 * m) else rowIn n ri (2 * m + 1) := by
    split
    · rw [show κ.val / 64 = 2 * m by omega]
    · rw [show κ.val / 64 = 2 * m + 1 by omega]
  unfold biasTab
  simp only [hT, h1, h2, h3, h4, h5, h6, h7, h8]
  unfold tileVal
  rw [hv]
  rfl

theorem tab_full (hv : ∀ l, v (ix3 0 0 l) = X (ix3 0 e l)) (hT : T.val = n) (hρ : ρ.val = ri * 64 + c.val) (hκ : κ.val = m * 128 + l.val)
    (he : e.val = (m * 2 + 8 - (4 * n + ri)) % 16) (h : rowIn n ri (2 * m) = true) (h' : rowIn n ri (2 * m + 1) = true) :
    fullTile v (ix4 0 0 c l) = biasTab X T ρ κ := by
  rw [tab_at X v e n ri m hv hT hρ hκ he, fullTile_at, h, h', ite_self, Bool.and_true]

theorem tab_left (hv : ∀ l, v (ix3 0 0 l) = X (ix3 0 e l)) (hT : T.val = n) (hρ : ρ.val = ri * 64 + c.val) (hκ : κ.val = m * 128 + l.val)
    (he : e.val = (m * 2 + 8 - (4 * n + ri)) % 16) (h : rowIn n ri (2 * m) = true) (h' : rowIn n ri (2 * m + 1) = false) :
    leftTile v (ix4 0 0 c l) = biasTab X T ρ κ := by
  rw [tab_at X v e n ri m hv hT hρ hκ he, leftTile_at, h, h']
  by_cases hl : l.val < 64 <;> simp [hl]

theorem tab_right (hv : ∀ l, v (ix3 0 0 l) = X (ix3 0 e l)) (hT : T.val = n) (hρ : ρ.val = ri * 64 + c.val) (hκ : κ.val = m * 128 + l.val)
    (he : e.val = (m * 2 + 8 - (4 * n + ri)) % 16) (h : rowIn n ri (2 * m) = false) (h' : rowIn n ri (2 * m + 1) = true) :
    rightTile v (ix4 0 0 c l) = biasTab X T ρ κ := by
  rw [tab_at X v e n ri m hv hT hρ hκ he, rightTile_at, h, h']
  by_cases hl : l.val < 64 <;> simp [hl]

theorem tab_mask (hT : T.val = n) (hρ : ρ.val = ri * 64 + c.val) (hκ : κ.val = m * 128 + l.val)
    (h : rowIn n ri (2 * m) = false) (h' : rowIn n ri (2 * m + 1) = false) :
    maskTile (ix4 0 0 c l) = biasTab X T ρ κ := by
  rw [tab_at X (fun i => X (ix3 0 ⟨(m * 2 + 8 - (4 * n + ri)) % 16, by omega⟩ (i 2))) ⟨(m * 2 + 8 - (4 * n + ri)) % 16, by omega⟩
    n ri m (fun _ => rfl) hT hρ hκ rfl, maskTile_at, h, h', ite_self, Bool.and_false]
  rfl

end Tab

set_option maxHeartbeats 4000000 in
/-- The block the body leaves is the bias tables. -/
theorem out1_at (X : Vec Ideal S1x16x128 .f32) (T : Fin 3) (ρ : Fin 256) (κ : Fin 768) :
    out1_1 X (ix4 T 0 ρ κ) = biasTab X T ρ κ := by
  rw [out1_tiles]
  canon_tiles y h
  all_goals
    idx_vars y
    obtain rfl : y0 = 0 := Subsingleton.elim _ _
    obtain rfl : y1 = 0 := Subsingleton.elim _ _
    replace h2 : ρ.val = _ := h2
    replace h3 : κ.val = _ := h3
    clear h1 y0_lt y1_lt y2_lt y3_lt
  · exact tab_full X _ 7 2 3 5 (fun l => by pointwise) h0 (by omega) (by omega) (by decide) (by decide) (by decide)
  · exact tab_full X _ 5 2 3 4 (fun l => by pointwise) h0 (by omega) (by omega) (by decide) (by decide) (by decide)
  · exact tab_full X _ 3 2 3 3 (fun l => by pointwise) h0 (by omega) (by omega) (by decide) (by decide) (by decide)
  · exact tab_full X _ 1 2 3 2 (fun l => by pointwise) h0 (by omega) (by omega) (by decide) (by decide) (by decide)
  · exact tab_mask X 2 3 1 h0 (by omega) (by omega) (by decide) (by decide)
  · exact tab_mask X 2 3 0 h0 (by omega) (by omega) (by decide) (by decide)
  · exact tab_full X _ 8 2 2 5 (fun l => by pointwise) h0 (by omega) (by omega) (by decide) (by decide) (by decide)
  · exact tab_full X _ 6 2 2 4 (fun l => by pointwise) h0 (by omega) (by omega) (by decide) (by decide) (by decide)
  · exact tab_full X _ 4 2 2 3 (fun l => by pointwise) h0 (by omega) (by omega) (by decide) (by decide) (by decide)
  · exact tab_full X _ 2 2 2 2 (fun l => by pointwise) h0 (by omega) (by omega) (by decide) (by decide) (by decide)
  · exact tab_mask X 2 2 1 h0 (by omega) (by omega) (by decide) (by decide)
  · exact tab_mask X 2 2 0 h0 (by omega) (by omega) (by decide) (by decide)
  · exact tab_full X _ 9 2 1 5 (fun l => by pointwise) h0 (by omega) (by omega) (by decide) (by decide) (by decide)
  · exact tab_full X _ 7 2 1 4 (fun l => by pointwise) h0 (by omega) (by omega) (by decide) (by decide) (by decide)
  · exact tab_full X _ 5 2 1 3 (fun l => by pointwise) h0 (by omega) (by omega) (by decide) (by decide) (by decide)
  · exact tab_full X _ 3 2 1 2 (fun l => by pointwise) h0 (by omega) (by omega) (by decide) (by decide) (by decide)
  · exact tab_mask X 2 1 1 h0 (by omega) (by omega) (by decide) (by decide)
  · exact tab_mask X 2 1 0 h0 (by omega) (by omega) (by decide) (by decide)
  · exact tab_full X _ 10 2 0 5 (fun l => by pointwise) h0 (by omega) (by omega) (by decide) (by decide) (by decide)
  · exact tab_full X _ 8 2 0 4 (fun l => by pointwise) h0 (by omega) (by omega) (by decide) (by decide) (by decide)
  · exact tab_full X _ 6 2 0 3 (fun l => by pointwise) h0 (by omega) (by omega) (by decide) (by decide) (by decide)
  · exact tab_full X _ 4 2 0 2 (fun l => by pointwise) h0 (by omega) (by omega) (by decide) (by decide) (by decide)
  · exact tab_mask X 2 0 1 h0 (by omega) (by omega) (by decide) (by decide)
  · exact tab_mask X 2 0 0 h0 (by omega) (by omega) (by decide) (by decide)
  · exact tab_left X _ 11 1 3 5 (fun l => by pointwise) h0 (by omega) (by omega) (by decide) (by decide) (by decide)
  · exact tab_full X _ 9 1 3 4 (fun l => by pointwise) h0 (by omega) (by omega) (by decide) (by decide) (by decide)
  · exact tab_full X _ 7 1 3 3 (fun l => by pointwise) h0 (by omega) (by omega) (by decide) (by decide) (by decide)
  · exact tab_full X _ 5 1 3 2 (fun l => by pointwise) h0 (by omega) (by omega) (by decide) (by decide) (by decide)
  · exact tab_right X _ 3 1 3 1 (fun l => by pointwise) h0 (by omega) (by omega) (by decide) (by decide) (by decide)
  · exact tab_mask X 1 3 0 h0 (by omega) (by omega) (by decide) (by decide)
  · exact tab_mask X 1 2 5 h0 (by omega) (by omega) (by decide) (by decide)
  · exact tab_full X _ 10 1 2 4 (fun l => by pointwise) h0 (by omega) (by omega) (by decide) (by decide) (by decide)
  · exact tab_full X _ 8 1 2 3 (fun l => by pointwise) h0 (by omega) (by omega) (by decide) (by decide) (by decide)
  · exact tab_full X _ 6 1 2 2 (fun l => by pointwise) h0 (by omega) (by omega) (by decide) (by decide) (by decide)
  · exact tab_full X _ 4 1 2 1 (fun l => by pointwise) h0 (by omega) (by omega) (by decide) (by decide) (by decide)
  · exact tab_mask X 1 2 0 h0 (by omega) (by omega) (by decide) (by decide)
  · exact tab_mask X 1 1 5 h0 (by omega) (by omega) (by decide) (by decide)
  · exact tab_left X _ 11 1 1 4 (fun l => by pointwise) h0 (by omega) (by omega) (by decide) (by decide) (by decide)
  · exact tab_full X _ 9 1 1 3 (fun l => by pointwise) h0 (by omega) (by omega) (by decide) (by decide) (by decide)
  · exact tab_full X _ 7 1 1 2 (fun l => by pointwise) h0 (by omega) (by omega) (by decide) (by decide) (by decide)
  · exact tab_full X _ 5 1 1 1 (fun l => by pointwise) h0 (by omega) (by omega) (by decide) (by decide) (by decide)
  · exact tab_right X _ 3 1 1 0 (fun l => by pointwise) h0 (by omega) (by omega) (by decide) (by decide) (by decide)
  · exact tab_mask X 1 0 5 h0 (by omega) (by omega) (by decide) (by decide)
  · exact tab_mask X 1 0 4 h0 (by omega) (by omega) (by decide) (by decide)
  · exact tab_full X _ 10 1 0 3 (fun l => by pointwise) h0 (by omega) (by omega) (by decide) (by decide) (by decide)
  · exact tab_full X _ 8 1 0 2 (fun l => by pointwise) h0 (by omega) (by omega) (by decide) (by decide) (by decide)
  · exact tab_full X _ 6 1 0 1 (fun l => by pointwise) h0 (by omega) (by omega) (by decide) (by decide) (by decide)
  · exact tab_full X _ 4 1 0 0 (fun l => by pointwise) h0 (by omega) (by omega) (by decide) (by decide) (by decide)
  · exact tab_mask X 0 3 5 h0 (by omega) (by omega) (by decide) (by decide)
  · exact tab_mask X 0 3 4 h0 (by omega) (by omega) (by decide) (by decide)
  · exact tab_full X _ 11 0 3 3 (fun l => by pointwise) h0 (by omega) (by omega) (by decide) (by decide) (by decide)
  · exact tab_full X _ 9 0 3 2 (fun l => by pointwise) h0 (by omega) (by omega) (by decide) (by decide) (by decide)
  · exact tab_full X _ 7 0 3 1 (fun l => by pointwise) h0 (by omega) (by omega) (by decide) (by decide) (by decide)
  · exact tab_full X _ 5 0 3 0 (fun l => by pointwise) h0 (by omega) (by omega) (by decide) (by decide) (by decide)
  · exact tab_mask X 0 2 5 h0 (by omega) (by omega) (by decide) (by decide)
  · exact tab_mask X 0 2 4 h0 (by omega) (by omega) (by decide) (by decide)
  · exact tab_full X _ 12 0 2 3 (fun l => by pointwise) h0 (by omega) (by omega) (by decide) (by decide) (by decide)
  · exact tab_full X _ 10 0 2 2 (fun l => by pointwise) h0 (by omega) (by omega) (by decide) (by decide) (by decide)
  · exact tab_full X _ 8 0 2 1 (fun l => by pointwise) h0 (by omega) (by omega) (by decide) (by decide) (by decide)
  · exact tab_full X _ 6 0 2 0 (fun l => by pointwise) h0 (by omega) (by omega) (by decide) (by decide) (by decide)
  · exact tab_mask X 0 1 5 h0 (by omega) (by omega) (by decide) (by decide)
  · exact tab_mask X 0 1 4 h0 (by omega) (by omega) (by decide) (by decide)
  · exact tab_full X _ 13 0 1 3 (fun l => by pointwise) h0 (by omega) (by omega) (by decide) (by decide) (by decide)
  · exact tab_full X _ 11 0 1 2 (fun l => by pointwise) h0 (by omega) (by omega) (by decide) (by decide) (by decide)
  · exact tab_full X _ 9 0 1 1 (fun l => by pointwise) h0 (by omega) (by omega) (by decide) (by decide) (by decide)
  · exact tab_full X _ 7 0 1 0 (fun l => by pointwise) h0 (by omega) (by omega) (by decide) (by decide) (by decide)
  · exact tab_mask X 0 0 5 h0 (by omega) (by omega) (by decide) (by decide)
  · exact tab_mask X 0 0 4 h0 (by omega) (by omega) (by decide) (by decide)
  · exact tab_full X _ 14 0 0 3 (fun l => by pointwise) h0 (by omega) (by omega) (by decide) (by decide) (by decide)
  · exact tab_full X _ 12 0 0 2 (fun l => by pointwise) h0 (by omega) (by omega) (by decide) (by decide) (by decide)
  · exact tab_full X _ 10 0 0 1 (fun l => by pointwise) h0 (by omega) (by omega) (by decide) (by decide) (by decide)
  · exact tab_full X _ 8 0 0 0 (fun l => by pointwise) h0 (by omega) (by omega) (by decide) (by decide) (by decide)

end Cert.KernelIdeal.Value

end
-- ==== Proof.BiasRun.lean ====
/- The second region's array: the bias tables of every head. -/
module

public import proofs.«01_k».proof.Proof.Bias

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

/-- The index maps of the region: head `t`. -/
theorem idx1 : ∀ t : Fin grid1.N, win1_0.index t = ![t.val, 0, 0] ∧ win1_1.index t = ![0, t.val, 0, 0] := by
  decide +kernel

/-- Head `h`'s rows of the widened table. -/
def headRows (c : Dev nD) (h : Fin 16) : Vec Ideal S1x16x128 .f32 := fun i => V c main_v8 (ix3 h (i 1) (i 2))

theorem tab_congr (c : Dev nD) {h h' : Fin 16} {T T' : Fin 3} {ρ ρ' : Fin 256} {κ κ' : Fin 768} (eh : h.val = h'.val)
    (eT : T.val = T'.val) (eρ : ρ.val = ρ'.val) (eκ : κ.val = κ'.val) :
    biasTab (headRows V c h) T ρ κ = biasTab (headRows V c h') T' ρ' κ' := by
  rw [Fin.ext eh, Fin.ext eT, Fin.ext eρ, Fin.ext eκ]

/-- The bias tables after the region. -/
theorem bias_final (c : Dev nD) : (dat1 V c).arrAt 1 cfg1.N
    = fun i : S3x16x256x768.Idx => biasTab (headRows V c ⟨(i 1).val, (i 1).isLt⟩) ⟨(i 0).val, (i 0).isLt⟩ ⟨(i 2).val, (i 2).isLt⟩ ⟨(i 3).val, (i 3).isLt⟩ := by
  refine (dat1 V c).arrAt_eq_of_covers 1 _ (by decide +kernel) fun t hf y => ?_
  blk_simp; rw [after1_1]
  idx_vars y
  obtain rfl : y1 = 0 := Subsingleton.elim _ _
  obtain ⟨e0, e1⟩ := idx1 t
  have ht : t.val < 16 := t.isLt
  pointwise
  refine (out1_at _ y0 y2 y3).trans ?_
  have hX : ∀ h : Fin 16, h.val = t.val → iblk1 V c 0 t = headRows V c h := fun h hh => by
    funext i
    idx_vars i
    obtain rfl : i0 = 0 := Subsingleton.elim _ _
    unfold headRows
    blk_ext [iblk1, e0, hh]
  rw [hX ⟨win1_1.index t 1 * 1 + 0, by rw [e1]; simpa using ht⟩ (by simp [e1])]
  exact tab_congr V c (by simp) (by simp [e1]) (by simp [e1]) (by simp [e1])

end Cert.KernelIdeal.Value

end
-- ==== Proof.Attend.lean ====
/- The third region: one block of 256 queries against three blocks of 256 keys, head pair by head pair. -/
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

/-- Of three blocks of 256 rows laid one after another, row `κ`. -/
def chunk {α : Type} (a b d : Fin 256 → α) (κ : Fin 768) : α :=
  if h : κ.val < 256 then a ⟨κ.val, h⟩ else if h : κ.val - 256 < 256 then b ⟨κ.val - 256, h⟩ else d ⟨κ.val - 256 - 256, by omega⟩

/-- A lane below 64 belongs to the first head of the pair. -/
theorem lane_bit : ∀ l : Fin 128, IntOp.cmpi .slt (BitVec.ofNat 32 l.val) 64#32 = BitVec.ofBool (decide (l.val < 64)) := by
  decide

theorem lane_lo : ∀ k : Fin 64, IntOp.cmpi .slt (BitVec.ofNat 32 k.val) 64#32 = 1#1 := by decide

theorem lane_hi : ∀ k : Fin 64, IntOp.cmpi .slt (BitVec.ofNat 32 (64 + k.val)) 64#32 = 0#1 := by decide

theorem lane_select (l : Fin 128) (a b : EReal) :
    Scalar.select (IntOp.cmpi .slt (BitVec.ofNat 32 l.val) 64#32) a b = if l.val < 64 then a else b := by
  rw [lane_bit]; by_cases h : l.val < 64 <;> simp [h, Scalar.select]

/-- The logits of the first head of a pair: the lanes of the second head meet zeros. -/
theorem logits_first (q k0 k1 k2 : Vec Ideal S1x1x256x128 .bf16) (b : Vec Ideal S1x1x512x768 .f32) (τ : Fin 256) (κ : Fin 768) :
    k2_pay4 q k0 k1 k2 b (ix2 ⟨τ.val, by omega⟩ κ)
      = (∑ d : Fin 64, q (ix4 0 0 τ ⟨d.val, by omega⟩) * chunk (fun i => k0 (ix4 0 0 i ⟨d.val, by omega⟩))
          (fun i => k1 (ix4 0 0 i ⟨d.val, by omega⟩)) (fun i => k2 (ix4 0 0 i ⟨d.val, by omega⟩)) κ)
        + b (ix4 0 0 ⟨τ.val, by omega⟩ κ) := by
  pointwise [k2_pay4, k2_pay2, chunk]
  congr 1
  rw [Fin.sum_univ_two_halves 64 64 rfl]
  refine (congrArg₂ (· + ·) (Finset.sum_congr rfl fun k _ => ?_) (Finset.sum_eq_zero fun k _ => ?_)).trans (add_zero _)
  · dsimp only; rw [lane_lo]; simp only [Scalar.select, if_true]; rfl
  · dsimp only; rw [lane_hi]; simp only [Scalar.select]; exact if_neg (by decide)

/-- The logits of the second head of a pair. -/
theorem logits_second (q k0 k1 k2 : Vec Ideal S1x1x256x128 .bf16) (b : Vec Ideal S1x1x512x768 .f32) (τ : Fin 256) (κ : Fin 768) :
    k2_pay4 q k0 k1 k2 b (ix2 ⟨256 + τ.val, by omega⟩ κ)
      = (∑ d : Fin 64, q (ix4 0 0 τ ⟨64 + d.val, by omega⟩) * chunk (fun i => k0 (ix4 0 0 i ⟨64 + d.val, by omega⟩))
          (fun i => k1 (ix4 0 0 i ⟨64 + d.val, by omega⟩)) (fun i => k2 (ix4 0 0 i ⟨64 + d.val, by omega⟩)) κ)
        + b (ix4 0 0 ⟨256 + τ.val, by omega⟩ κ) := by
  pointwise [k2_pay4, k2_pay2, chunk]
  congr 1
  rw [Fin.sum_univ_two_halves 64 64 rfl]
  refine (congrArg₂ (· + ·) (Finset.sum_eq_zero fun k _ => ?_) (Finset.sum_congr rfl fun k _ => ?_)).trans (zero_add _)
  · dsimp only; rw [lane_lo]; simp only [Scalar.select]; exact if_pos rfl
  · dsimp only; rw [lane_hi]; simp only [Scalar.select]; rfl

/-- The softmax in powers of two over the 768 keys of a block, applied to their values. -/
def headOut (s v : Fin 768 → EReal) : EReal :=
  (∑ κ, Ideal.exp2 (s κ - Finset.univ.fold max ⊥ s) * v κ) * Ideal.div 1 (∑ κ, Ideal.exp2 (s κ - Finset.univ.fold max ⊥ s))

theorem neg_inf : Ideal.ofBits .f32 0xFF800000#32 = ⊥ := by
  simp [Ideal.ofBits, Ideal.ieee]

/-- One pair of heads: the same operations for each pair. -/
def pair (q k0 k1 k2 : Vec Ideal S1x1x256x128 .bf16) (b : Vec Ideal S1x1x512x768 .f32) (v0 v1 v2 : Vec Ideal S1x1x256x128 .bf16) :
    Vec Ideal S1x1x256x128 .bf16 :=
  k2_pay13 (k2_pay12 k2_pay2 k2_pay3 (k2_pay4 q k0 k1 k2 b) v0 v1 v2)

/-- The attended lane `l` of token `τ`, from the logits: its own head's row of them. -/
theorem out_at (s : FVec Ideal S512x768 .f32) (v0 v1 v2 : Vec Ideal S1x1x256x128 .bf16) (τ : Fin 256) (l : Fin 128) :
    k2_pay13 (k2_pay12 k2_pay2 k2_pay3 s v0 v1 v2) (ix4 0 0 τ l)
      = headOut (fun κ => if l.val < 64 then s (ix2 ⟨τ.val, by omega⟩ κ) else s (ix2 ⟨256 + τ.val, by omega⟩ κ))
          (chunk (fun i => v0 (ix4 0 0 i l)) (fun i => v1 (ix4 0 0 i l)) (fun i => v2 (ix4 0 0 i l))) := by
  pointwise [k2_pay12, k2_pay13, k2_pay2, k2_pay3]
  rw [lane_select, neg_inf]
  unfold headOut chunk
  by_cases h : l.val < 64 <;> simp only [h, if_true, if_false] <;> rfl

/-- One pair of heads at token `τ`, lane `l`. -/
theorem pair_at (q k0 k1 k2 : Vec Ideal S1x1x256x128 .bf16) (b : Vec Ideal S1x1x512x768 .f32)
    (v0 v1 v2 : Vec Ideal S1x1x256x128 .bf16) (τ : Fin 256) (l : Fin 128) :
    pair q k0 k1 k2 b v0 v1 v2 (ix4 0 0 τ l)
      = headOut (fun κ => (∑ d : Fin 64, q (ix4 0 0 τ ⟨l.val / 64 * 64 + d.val, by omega⟩)
            * chunk (fun i => k0 (ix4 0 0 i ⟨l.val / 64 * 64 + d.val, by omega⟩)) (fun i => k1 (ix4 0 0 i ⟨l.val / 64 * 64 + d.val, by omega⟩))
                (fun i => k2 (ix4 0 0 i ⟨l.val / 64 * 64 + d.val, by omega⟩)) κ) + b (ix4 0 0 ⟨l.val / 64 * 256 + τ.val, by omega⟩ κ))
          (chunk (fun i => v0 (ix4 0 0 i l)) (fun i => v1 (ix4 0 0 i l)) (fun i => v2 (ix4 0 0 i l))) := by
  unfold pair
  rw [out_at]
  congr 1
  funext κ
  by_cases h : l.val < 64
  · have e : l.val / 64 = 0 := by omega
    simp only [if_pos h, logits_first, e, Nat.zero_mul, Nat.zero_add]
  · have e : l.val / 64 = 1 := by omega
    simp only [if_neg h, logits_second, e, Nat.one_mul]

/-- The block the body leaves is eight times the same computation, once per pair of heads. -/
theorem out2_pairs (x0 x1 x2 x3 x4 x5 x6 : Vec Ideal S1x1x256x1024 .bf16) (x7 : Vec Ideal S1x8x512x768 .f32) :
    out2_8 x0 x1 x2 x3 x4 x5 x6 x7 = View.canon
      [⟨r2_14, pair (View.ld x0 r2_14) (View.ld x1 r2_14) (View.ld x2 r2_14) (View.ld x3 r2_14) (View.ld x7 r2_15) (View.ld x4 r2_14) (View.ld x5 r2_14) (View.ld x6 r2_14)⟩,
       ⟨r2_12, pair (View.ld x0 r2_12) (View.ld x1 r2_12) (View.ld x2 r2_12) (View.ld x3 r2_12) (View.ld x7 r2_13) (View.ld x4 r2_12) (View.ld x5 r2_12) (View.ld x6 r2_12)⟩,
       ⟨r2_10, pair (View.ld x0 r2_10) (View.ld x1 r2_10) (View.ld x2 r2_10) (View.ld x3 r2_10) (View.ld x7 r2_11) (View.ld x4 r2_10) (View.ld x5 r2_10) (View.ld x6 r2_10)⟩,
       ⟨r2_8, pair (View.ld x0 r2_8) (View.ld x1 r2_8) (View.ld x2 r2_8) (View.ld x3 r2_8) (View.ld x7 r2_9) (View.ld x4 r2_8) (View.ld x5 r2_8) (View.ld x6 r2_8)⟩,
       ⟨r2_6, pair (View.ld x0 r2_6) (View.ld x1 r2_6) (View.ld x2 r2_6) (View.ld x3 r2_6) (View.ld x7 r2_7) (View.ld x4 r2_6) (View.ld x5 r2_6) (View.ld x6 r2_6)⟩,
       ⟨r2_4, pair (View.ld x0 r2_4) (View.ld x1 r2_4) (View.ld x2 r2_4) (View.ld x3 r2_4) (View.ld x7 r2_5) (View.ld x4 r2_4) (View.ld x5 r2_4) (View.ld x6 r2_4)⟩,
       ⟨r2_2, pair (View.ld x0 r2_2) (View.ld x1 r2_2) (View.ld x2 r2_2) (View.ld x3 r2_2) (View.ld x7 r2_3) (View.ld x4 r2_2) (View.ld x5 r2_2) (View.ld x6 r2_2)⟩,
       ⟨r2_0, pair (View.ld x0 r2_0) (View.ld x1 r2_0) (View.ld x2 r2_0) (View.ld x3 r2_0) (View.ld x7 r2_1) (View.ld x4 r2_0) (View.ld x5 r2_0) (View.ld x6 r2_0)⟩] := rfl

/-- The block the body leaves, at token `τ` and channel `n`: channel `n` belongs to head `n / 64`. -/
theorem out2_at (q k0 k1 k2 v0 v1 v2 : Vec Ideal S1x1x256x1024 .bf16) (b : Vec Ideal S1x8x512x768 .f32) (τ : Fin 256) (n : Fin 1024) :
    out2_8 q k0 k1 k2 v0 v1 v2 b (ix4 0 0 τ n)
      = headOut (fun κ => (∑ d : Fin 64, q (ix4 0 0 τ ⟨n.val / 64 * 64 + d.val, by omega⟩)
            * chunk (fun i => k0 (ix4 0 0 i ⟨n.val / 64 * 64 + d.val, by omega⟩)) (fun i => k1 (ix4 0 0 i ⟨n.val / 64 * 64 + d.val, by omega⟩))
                (fun i => k2 (ix4 0 0 i ⟨n.val / 64 * 64 + d.val, by omega⟩)) κ)
              + b (ix4 0 ⟨n.val / 128, by omega⟩ ⟨n.val / 64 % 2 * 256 + τ.val, by omega⟩ κ))
          (chunk (fun i => v0 (ix4 0 0 i n)) (fun i => v1 (ix4 0 0 i n)) (fun i => v2 (ix4 0 0 i n))) := by
  rw [out2_pairs]
  canon_tiles y h
  all_goals
    idx_vars y
    obtain rfl : y0 = 0 := Subsingleton.elim _ _
    obtain rfl : y1 = 0 := Subsingleton.elim _ _
    replace h2 : τ.val = y2.val := h2
    obtain rfl : τ = y2 := Fin.ext h2
    have h4 : n.val = _ := h3
    have h5 : y3.val < 128 := y3.isLt
    clear h0 h1 h2 h3 y0_lt y1_lt y2_lt y3_lt
    rw [pair_at]
    congr 1
    · funext κ
      congr 1
      · refine Finset.sum_congr rfl fun d _ => ?_
        congr 1
        · pointwise; congr 2; apply Fin.ext; dsimp only; omega
        · congr 1 <;> funext i <;> pointwise <;> congr 2 <;> apply Fin.ext <;> dsimp only <;> omega
      · pointwise
        congr 2 <;> apply Fin.ext <;> first | (dsimp only; omega) | (simp; omega)
    · congr 1 <;> funext i <;> pointwise <;> congr 2 <;> apply Fin.ext <;> dsimp only <;> omega

end Cert.KernelIdeal.Value

end
-- ==== Proof.AttendRun.lean ====
/- The third region's array: every block of queries attends to the three blocks of keys around it. -/
module

public import proofs.«01_k».proof.Proof.Attend

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

/-- The block of four rows that key `κ` of block `j` lies in. -/
def keyBlk (j : Fin 64) (κ : Fin 768) : Fin 64 := ⟨min (j.val - 1) 61 + κ.val / 256, by omega⟩

/-- Key `κ` within its block. -/
def keyPos (κ : Fin 768) : Fin 256 := ⟨κ.val % 256, by omega⟩

/-- Which of the three bias tables block `j` takes: the first block's, the last block's or the others'. -/
def biasType (j : Fin 64) : Fin 3 := if j.val = 0 then 0 else if j.val = 63 then 2 else 1

/-- The index maps of the region at point `t`: batch `t / 64`, block `t % 64`. -/
theorem idx2 : ∀ t : Fin grid2.N, win2_0.index t = ![t.val / 64, t.val % 64, 0, 0]
    ∧ win2_1.index t = ![t.val / 64, min (t.val % 64 - 1) 61, 0, 0]
    ∧ win2_2.index t = ![t.val / 64, min (t.val % 64 - 1) 61 + 1, 0, 0]
    ∧ win2_3.index t = ![t.val / 64, min (t.val % 64 - 1) 61 + 2, 0, 0]
    ∧ win2_4.index t = ![t.val / 64, min (t.val % 64 - 1) 61, 0, 0]
    ∧ win2_5.index t = ![t.val / 64, min (t.val % 64 - 1) 61 + 1, 0, 0]
    ∧ win2_6.index t = ![t.val / 64, min (t.val % 64 - 1) 61 + 2, 0, 0]
    ∧ win2_7.index t = ![if t.val % 64 = 0 then 0 else if t.val % 64 = 63 then 2 else 1, 0, 0, 0]
    ∧ win2_8.index t = ![t.val / 64, t.val % 64, 0, 0] := by
  decide +kernel

/-- Three blocks read one after another are the rows of one array from the first block on. -/
theorem chunk_rows (A : Fin 64 → Fin 256 → EReal) (j : Fin 64) (κ : Fin 768) :
    chunk (A ⟨min (j.val - 1) 61, by omega⟩) (A ⟨min (j.val - 1) 61 + 1, by omega⟩) (A ⟨min (j.val - 1) 61 + 2, by omega⟩) κ
      = A (keyBlk j κ) (keyPos κ) := by
  unfold chunk keyBlk keyPos
  split
  · congr 1 <;> apply Fin.ext <;> dsimp only <;> omega
  · split
    · congr 1 <;> apply Fin.ext <;> dsimp only <;> omega
    · congr 1 <;> apply Fin.ext <;> dsimp only <;> omega

/-- Batch `b`, block `j`, token `τ`, channel `n` of the attended array, from queries, keys, values and bias tables. -/
def attOf (Q K W : Fin 2 → Fin 64 → Fin 256 → Fin 1024 → EReal) (B : Fin 3 → Fin 8 → Fin 512 → Fin 768 → EReal)
    (b : Fin 2) (j : Fin 64) (τ : Fin 256) (n : Fin 1024) : EReal :=
  headOut (fun κ => (∑ d : Fin 64, Q b j τ ⟨n.val / 64 * 64 + d.val, by omega⟩
        * K b (keyBlk j κ) (keyPos κ) ⟨n.val / 64 * 64 + d.val, by omega⟩)
      + B (biasType j) ⟨n.val / 128, by omega⟩ ⟨n.val / 64 % 2 * 256 + τ.val, by omega⟩ κ)
    (fun κ => W b (keyBlk j κ) (keyPos κ) n)

/-- The same, from the arrays the region finds. -/
def attAt (c : Dev nD) (b : Fin 2) (j : Fin 64) (τ : Fin 256) (n : Fin 1024) : EReal :=
  attOf (fun b j τ n => V c main_v10 (ix4 b j τ n)) (fun b j τ n => V c main_v11 (ix4 b j τ n))
    (fun b j τ n => V c main_v12 (ix4 b j τ n)) (fun T p ρ κ => V c main_v13 (ix4 T p ρ κ)) b j τ n

set_option maxHeartbeats 1000000 in
theorem att_blk (c : Dev nD) (t : Fin cfg2.N) (b : Fin 2) (j : Fin 64) (hb : t.val / 64 = b.val) (hj : t.val % 64 = j.val)
    (τ : Fin 256) (n : Fin 1024) :
    out2_8 (iblk2 V c 0 t) (iblk2 V c 1 t) (iblk2 V c 2 t) (iblk2 V c 3 t) (iblk2 V c 4 t) (iblk2 V c 5 t) (iblk2 V c 6 t)
      (iblk2 V c 7 t) (ix4 0 0 τ n) = attAt V c b j τ n := by
  obtain ⟨e0, e1, e2, e3, e4, e5, e6, e7, -⟩ := idx2 t
  rw [hb, hj] at e0 e1 e2 e3 e4 e5 e6
  rw [hj] at e7
  rw [out2_at]
  unfold attAt attOf
  have hk : ∀ m : Fin 1024, ∀ κ, chunk (fun i => iblk2 V c 1 t (ix4 0 0 i m)) (fun i => iblk2 V c 2 t (ix4 0 0 i m))
      (fun i => iblk2 V c 3 t (ix4 0 0 i m)) κ = V c main_v11 (ix4 b (keyBlk j κ) (keyPos κ) m) := fun m κ => by
    rw [← chunk_rows (fun B i => V c main_v11 (ix4 b B i m)) j κ]
    congr 1
    · funext i; blk_ext [iblk2, e1]
    · funext i; blk_ext [iblk2, e2]
    · funext i; blk_ext [iblk2, e3]
  have hv : ∀ m : Fin 1024, ∀ κ, chunk (fun i => iblk2 V c 4 t (ix4 0 0 i m)) (fun i => iblk2 V c 5 t (ix4 0 0 i m))
      (fun i => iblk2 V c 6 t (ix4 0 0 i m)) κ = V c main_v12 (ix4 b (keyBlk j κ) (keyPos κ) m) := fun m κ => by
    rw [← chunk_rows (fun B i => V c main_v12 (ix4 b B i m)) j κ]
    congr 1
    · funext i; blk_ext [iblk2, e4]
    · funext i; blk_ext [iblk2, e5]
    · funext i; blk_ext [iblk2, e6]
  congr 1
  · funext κ
    congr 1
    · refine Finset.sum_congr rfl fun d _ => ?_
      rw [hk]
      congr 1
      blk_ext [iblk2, e0]
    · have eb : (if j.val = 0 then 0 else if j.val = 63 then 2 else 1 : ℕ) = (biasType j).val := by
        unfold biasType; split; · rfl
        split <;> rfl
      rw [eb] at e7
      blk_ext [iblk2, e7]
  · funext κ; exact hv n κ

/-- The attended array after the region. -/
theorem att_final (c : Dev nD) : (dat2 V c).arrAt 8 cfg2.N
    = fun i : S2x64x256x1024.Idx => attAt V c ⟨(i 0).val, (i 0).isLt⟩ ⟨(i 1).val, (i 1).isLt⟩ ⟨(i 2).val, (i 2).isLt⟩ ⟨(i 3).val, (i 3).isLt⟩ := by
  refine (dat2 V c).arrAt_eq_of_covers 8 _ (by decide +kernel) fun t hf y => ?_
  blk_simp; rw [after2_8]
  idx_vars y
  obtain rfl : y0 = 0 := Subsingleton.elim _ _
  obtain rfl : y1 = 0 := Subsingleton.elim _ _
  obtain ⟨-, -, -, -, -, -, -, -, e⟩ := idx2 t
  have ht : t.val < 128 := t.isLt
  pointwise
  refine (att_blk V c t _ _ ?_ ?_ y2 y3).trans (congrArg₂ (attAt V c _ _) (Fin.ext ?_) (Fin.ext ?_)) <;> simp [e]

end Cert.KernelIdeal.Value

end
-- ==== Proof.Ffn.lean ====
/- The last region: output projection, residual, the feed-forward part and the final normalisation, row by row. -/
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

/-- The residual block at row `r`, column `n`. -/
theorem resid_at (x : Vec Ideal S512x1024 .f32) (a : Vec Ideal S512x1024 .bf16) (wo : Vec Ideal S1024x1024 .bf16)
    (bo : Vec Ideal S1x1024 .f32) (r : Fin 512) (n : Fin 1024) :
    k3_pay2 x a wo bo (ix2 r n)
      = resid (fun k => x (ix2 r k)) (fun k => a (ix2 r k)) (fun k n => wo (ix2 k n)) (fun n => bo (ix2 0 n)) n := by
  pointwise [k3_pay2, resid]
  rw [add_assoc]

/-- The gated hidden block at row `r`, channel `f`. -/
theorem hidden_at (x : Vec Ideal S512x1024 .f32) (a : Vec Ideal S512x1024 .bf16) (wo : Vec Ideal S1024x1024 .bf16)
    (bo g : Vec Ideal S1x1024 .f32) (wg wu : Vec Ideal S1024x2816 .bf16) (r : Fin 512) (f : Fin 2816) :
    k3_pay3 x a wo bo g wg wu (ix2 r f)
      = gated (resid (fun k => x (ix2 r k)) (fun k => a (ix2 r k)) (fun k n => wo (ix2 k n)) (fun n => bo (ix2 0 n)))
          (fun k => g (ix2 0 k)) (fun k f => wg (ix2 k f)) (fun k f => wu (ix2 k f)) f := by
  pointwise [k3_pay3, gated, rms]
  simp only [resid_at, Ideal.logistic]

/-- The whole block at row `r`, column `n`. -/
theorem tail_at (x : Vec Ideal S512x1024 .f32) (a : Vec Ideal S512x1024 .bf16) (wo : Vec Ideal S1024x1024 .bf16)
    (bo g : Vec Ideal S1x1024 .f32) (wg wu : Vec Ideal S1024x2816 .bf16) (wd : Vec Ideal S2816x1024 .bf16)
    (gf : Vec Ideal S1x1024 .f32) (r : Fin 512) (n : Fin 1024) :
    k3_pay1 (k3_pay2 x a wo bo) (k3_pay3 x a wo bo g wg wu) wd gf (ix2 r n)
      = tail (fun k => x (ix2 r k)) (fun k => a (ix2 r k)) (fun k n => wo (ix2 k n)) (fun n => bo (ix2 0 n))
          (fun k => g (ix2 0 k)) (fun k f => wg (ix2 k f)) (fun k f => wu (ix2 k f)) (fun f n => wd (ix2 f n))
          (fun n => gf (ix2 0 n)) n := by
  pointwise [k3_pay1, Layer.tail, ffn, rms]
  simp only [resid_at, hidden_at]

/-- The index maps of the region: block `t` of rows of the row arrays, every weight whole. -/
theorem idx3 : ∀ t : Fin grid3.N, win3_0.index t = ![t.val, 0] ∧ win3_1.index t = ![t.val, 0] ∧ win3_2.index t = ![0, 0]
    ∧ win3_3.index t = ![0, 0] ∧ win3_4.index t = ![0, 0] ∧ win3_5.index t = ![0, 0] ∧ win3_6.index t = ![0, 0]
    ∧ win3_7.index t = ![0, 0] ∧ win3_8.index t = ![0, 0] ∧ win3_9.index t = ![t.val, 0] := by
  decide +kernel

/-- Row `r` of the layer's result, from the arrays the region finds. -/
def tailrow (c : Dev nD) (r : Fin 32768) (n : Fin 1024) : EReal :=
  tail (fun k => V c main_v0 (ix2 r k)) (fun k => V c main_v15 (ix2 r k)) (fun k n => V c main_v16 (ix2 k n))
    (fun n => V c main_v17 (ix2 0 n)) (fun k => V c main_v18 (ix2 0 k)) (fun k f => V c main_v19 (ix2 k f))
    (fun k f => V c main_v20 (ix2 k f)) (fun f n => V c main_v21 (ix2 f n)) (fun n => V c main_v22 (ix2 0 n)) n

set_option maxHeartbeats 1000000 in
/-- The kernel's block at point `t`, row `r` of the block, is row `512 t + r` of the result. -/
theorem tail_blk (c : Dev nD) (t : Fin cfg3.N) (r : Fin 512) (n : Fin 1024) (R : Fin 32768) (hR : R.val = t.val * 512 + r.val) :
    k3_pay1 (k3_pay2 (iblk3 V c 0 t) (iblk3 V c 1 t) (iblk3 V c 2 t) (iblk3 V c 3 t))
      (k3_pay3 (iblk3 V c 0 t) (iblk3 V c 1 t) (iblk3 V c 2 t) (iblk3 V c 3 t) (iblk3 V c 4 t) (iblk3 V c 5 t) (iblk3 V c 6 t))
      (iblk3 V c 7 t) (iblk3 V c 8 t) (ix2 r n) = tailrow V c R n := by
  obtain ⟨e0, e1, e2, e3, e4, e5, e6, e7, e8, -⟩ := idx3 t
  rw [tail_at]
  unfold tailrow
  congr 1
  · funext a; blk_ext [iblk3, e0, hR]
  · funext a; blk_ext [iblk3, e1, hR]
  · funext a b; blk_ext [iblk3, e2]
  · funext a; blk_ext [iblk3, e3]
  · funext a; blk_ext [iblk3, e4]
  · funext a b; blk_ext [iblk3, e5]
  · funext a b; blk_ext [iblk3, e6]
  · funext a b; blk_ext [iblk3, e7]
  · funext a; blk_ext [iblk3, e8]

/-- The result array after the region. -/
theorem tail_final (c : Dev nD) : (dat3 V c).arrAt 9 cfg3.N
    = fun i : S32768x1024.Idx => tailrow V c ⟨(i 0).val, (i 0).isLt⟩ ⟨(i 1).val, (i 1).isLt⟩ := by
  refine (dat3 V c).arrAt_eq_of_covers 9 _ (by decide +kernel) fun t hf y => ?_
  blk_simp; rw [after3_9]; frame_out
  idx_vars y
  obtain ⟨-, -, -, -, -, -, -, -, -, e⟩ := idx3 t
  pointwise
  exact (tail_blk V c t y0 _ _ (by simp [e])).trans (congrArg (tailrow V c _) (Fin.ext (by simp [e])))

end Cert.KernelIdeal.Value

end
-- ==== Proof.Chain.lean ====
/- The kernel's result read back through its boundaries: each array a region finds, from the arguments. -/
module

public import proofs.«01_k».proof.Proof.Qkv
public import proofs.«01_k».proof.Proof.BiasRun
public import proofs.«01_k».proof.Proof.AttendRun
public import proofs.«01_k».proof.Proof.Ffn
public import Idealize.ShloMosaic.Lib.StableHlo.ReadAt

@[expose] public section

set_option maxRecDepth 16384

noncomputable section

namespace Cert.KernelIdeal.Value

open Idealize.ShloMosaic Idealize.ShloMosaic.TcCoe Idealize.SL.Sem
open Cert.KernelIdeal Cert.KernelIdeal.Gen Cert.Layer

variable (m : (ℓ : Loc nD τ sig) → Buf (Elt Ideal) ℓ) (ρ : Dev nD → PrngReg)

/-- The arguments of the launch, as functions. -/
def kargs (c : Dev nD) : Args where
  x := fun b t k => m ((c : Thread nD τ).loc main_arg0) (ix3 b t k)
  gmix := fun k => m ((c : Thread nD τ).loc main_arg1) (ix1 k)
  gffn := fun k => m ((c : Thread nD τ).loc main_arg2) (ix1 k)
  gfin := fun k => m ((c : Thread nD τ).loc main_arg3) (ix1 k)
  wqkv := fun k n => m ((c : Thread nD τ).loc main_arg4) (ix2 k n)
  bqkv := fun n => m ((c : Thread nD τ).loc main_arg5) (ix1 n)
  rpb := fun h e l => m ((c : Thread nD τ).loc main_arg6) (ix3 h e l)
  wo := fun k n => m ((c : Thread nD τ).loc main_arg7) (ix2 k n)
  bo := fun n => m ((c : Thread nD τ).loc main_arg8) (ix1 n)
  wg := fun k f => m ((c : Thread nD τ).loc main_arg9) (ix2 k f)
  wu := fun k f => m ((c : Thread nD τ).loc main_arg10) (ix2 k f)
  wd := fun f n => m ((c : Thread nD τ).loc main_arg11) (ix2 f n)

/-- The padded bias tables, each row beside the next. -/
def padTab (rpb : Fin 16 → Fin 15 → Fin 31 → EReal) (h e : Fin 16) (l : Fin 128) : EReal :=
  if _ : l.val < 64 then
    if h2 : (1 ≤ e.val ∧ e.val - 1 < 15) ∧ l.val < 31 then rpb h ⟨e.val - 1, h2.1.2⟩ ⟨l.val, h2.2⟩ else 0
  else if h2 : e.val < 15 ∧ l.val - 64 < 31 then rpb h ⟨e.val, h2.1⟩ ⟨l.val - 64, h2.2⟩ else 0

/-- The token of a block's row. -/
def tok (j : Fin 64) (t : Fin 256) : Fin 16384 := ⟨j.val * 256 + t.val, by omega⟩

/-- The attended rows, from the arguments. -/
def katt (A : Args) (b : Fin 2) (t : Fin 16384) (n : Fin 1024) : EReal :=
  attOf (fun b j τ n => A.z b (tok j τ) ⟨n.val, by omega⟩ * (((8 * (Real.log 2))⁻¹ : ℝ) : EReal))
    (fun b j τ n => A.z b (tok j τ) ⟨1024 + n.val, by omega⟩) (fun b j τ n => A.z b (tok j τ) ⟨2048 + n.val, by omega⟩)
    (fun T p ρ κ => biasTab (fun i => padTab A.rpb ⟨p.val * 2 + ρ.val / 256, by omega⟩ (i 1) (i 2)) T ⟨ρ.val % 256, by omega⟩ κ)
    b ⟨t.val / 256, by omega⟩ ⟨t.val % 256, by omega⟩ n

theorem v0_at (c : Dev nD) (r : Fin 32768) (k : Fin 1024) :
    W1 m ρ c main_v0 (ix2 r k) = (kargs m c).x ⟨r.val / 16384, by omega⟩ ⟨r.val % 16384, by omega⟩ k := by
  unfold W1
  after_reads_at
  rfl

theorem v1_at (c : Dev nD) (k : Fin 1024) : W1 m ρ c main_v1 (ix2 0 k) = (kargs m c).gmix k := by
  unfold W1
  after_reads_at
  rfl

theorem v2_at (c : Dev nD) (k : Fin 1024) (n : Fin 3072) : W1 m ρ c main_v2 (ix2 k n) = (kargs m c).wqkv k n := by
  unfold W1
  after_reads_at
  rfl

theorem v3_at (c : Dev nD) (n : Fin 3072) : W1 m ρ c main_v3 (ix2 0 n) = (kargs m c).bqkv n := by
  unfold W1
  after_reads_at
  rfl

/-- A row of the projection is its token's. -/
theorem zrow_at (c : Dev nD) (b : Fin 2) (t : Fin 16384) (r : Fin 32768) (hr : r.val = b.val * 16384 + t.val) (n : Fin 3072) :
    zrow (V1 m ρ) c r n = (kargs m c).z b t n := by
  have e1 : (⟨r.val / 16384, by omega⟩ : Fin 2) = b := Fin.ext (by simp; omega)
  have e2 : (⟨r.val % 16384, by omega⟩ : Fin 16384) = t := Fin.ext (by simp; omega)
  unfold zrow Args.z
  rw [show (fun k => V1 m ρ c main_v0 (ix2 r k)) = (kargs m c).x b t from funext fun k => (v0_at m ρ c r k).trans (by rw [e1, e2]),
    show (fun k => V1 m ρ c main_v1 (ix2 0 k)) = (kargs m c).gmix from funext (v1_at m ρ c),
    show (fun k n => V1 m ρ c main_v2 (ix2 k n)) = (kargs m c).wqkv from funext fun k => funext (v2_at m ρ c k),
    show (fun n => V1 m ρ c main_v3 (ix2 0 n)) = (kargs m c).bqkv from funext (v3_at m ρ c)]

/-- The padded tables the bias region finds. -/
theorem v8_at (c : Dev nD) (h : Fin 16) (e : Fin 16) (l : Fin 128) :
    W5 m ρ c main_v8 (ix3 h e l) = padTab (kargs m c).rpb h e l := by
  unfold W5
  after_reads_at
  have z : FloatOps.sitofp (F := Ideal) FTy.f32 0#32 = (0 : EReal) := by
    show ((BitVec.toInt 0#32 : ℝ) : EReal) = 0
    simp
  have A : ∀ i, W2 m ρ c (Proc.devRef .tc main_arg6) i = m ((c : Thread nD τ).loc main_arg6) i :=
    fun i => congrFun (W2_args m ρ c main_arg6 (by decide)) i
  unfold padTab
  split_ifs with h1 h2 h2
  · exact A (ix3 h ⟨e.val - 1, h2.1.2⟩ ⟨l.val, h2.2⟩)
  · exact z
  · refine Eq.trans (A (ix3 h ⟨e.val, h2.1⟩ ⟨l.val - 64, h2.2⟩)) ?_
    rfl
  · exact absurd rfl ‹_›
  · exact z

/-- The attention region's queries, keys, values and biases. -/
theorem v10_at (c : Dev nD) (b : Fin 2) (j : Fin 64) (t : Fin 256) (n : Fin 1024) :
    W7 m ρ c main_v10 (ix4 b j t n) = (kargs m c).z b (tok j t) ⟨n.val, by omega⟩ * (((8 * (Real.log 2))⁻¹ : ℝ) : EReal) := by
  unfold W7
  after_reads_at
  rw [W6_of m ρ c main_v4_0 (by decide), W5_of m ρ c main_v4_0 (by decide), W4_of m ρ c main_v4_0 (by decide),
    W3_of m ρ c main_v4_0 (by decide)]
  refine (congrFun ((W2_arr m ρ c 4).trans (q_final (V1 m ρ) c)) _).trans ?_
  exact congrArg (· * _) (zrow_at m ρ c b (tok j t) _ (Nat.add_assoc _ _ _) _)

theorem v11_at (c : Dev nD) (b : Fin 2) (j : Fin 64) (t : Fin 256) (n : Fin 1024) :
    W7 m ρ c main_v11 (ix4 b j t n) = (kargs m c).z b (tok j t) ⟨1024 + n.val, by omega⟩ := by
  unfold W7
  after_reads_at
  rw [W6_of m ρ c main_v4_1 (by decide), W5_of m ρ c main_v4_1 (by decide), W4_of m ρ c main_v4_1 (by decide),
    W3_of m ρ c main_v4_1 (by decide)]
  refine (congrFun ((W2_arr m ρ c 5).trans (k_final (V1 m ρ) c)) _).trans ?_
  exact zrow_at m ρ c b (tok j t) _ (Nat.add_assoc _ _ _) _

theorem v12_at (c : Dev nD) (b : Fin 2) (j : Fin 64) (t : Fin 256) (n : Fin 1024) :
    W7 m ρ c main_v12 (ix4 b j t n) = (kargs m c).z b (tok j t) ⟨2048 + n.val, by omega⟩ := by
  unfold W7
  after_reads_at
  rw [W6_of m ρ c main_v4_2 (by decide), W5_of m ρ c main_v4_2 (by decide), W4_of m ρ c main_v4_2 (by decide),
    W3_of m ρ c main_v4_2 (by decide)]
  refine (congrFun ((W2_arr m ρ c 6).trans (v_final (V1 m ρ) c)) _).trans ?_
  exact zrow_at m ρ c b (tok j t) _ (Nat.add_assoc _ _ _) _

theorem v13_at (c : Dev nD) (T : Fin 3) (p : Fin 8) (r : Fin 512) (k : Fin 768) :
    W7 m ρ c main_v13 (ix4 T p r k) = biasTab (fun i => padTab (kargs m c).rpb ⟨p.val * 2 + r.val / 256, by omega⟩ (i 1) (i 2)) T ⟨r.val % 256, by omega⟩ k := by
  unfold W7
  after_reads_at
  refine (congrFun ((W6_arr m ρ c 1).trans (bias_final (V5 m ρ) c)) _).trans ?_
  exact congrArg (fun X => biasTab X _ _ _) (funext fun i => v8_at m ρ c _ _ _)

/-- The attended rows the last region finds. -/
theorem v15_at (c : Dev nD) (b : Fin 2) (t : Fin 16384) (r : Fin 32768) (hr : r.val = b.val * 16384 + t.val) (k : Fin 1024) :
    W9 m ρ c main_v15 (ix2 r k) = katt (kargs m c) b t k := by
  unfold W9
  after_reads_at
  refine (congrFun ((W8_arr m ρ c 8).trans (att_final (V7 m ρ) c)) _).trans ?_
  have e1 : (⟨r.val / 16384, by omega⟩ : Fin 2) = b := Fin.ext (by simp; omega)
  have e2 : (⟨r.val / 256 % 64, by omega⟩ : Fin 64) = ⟨t.val / 256, by omega⟩ := Fin.ext (by simp; omega)
  have e3 : (⟨r.val % 256, by omega⟩ : Fin 256) = ⟨t.val % 256, by omega⟩ := Fin.ext (by simp; omega)
  show attAt (V7 m ρ) c ⟨r.val / 16384, _⟩ ⟨r.val / 256 % 64, _⟩ ⟨r.val % 256, _⟩ k = _
  rw [e1, e2, e3]
  unfold attAt katt
  rw [show (fun b j t n => V7 m ρ c main_v10 (ix4 b j t n)) = _ from funext fun b => funext fun j => funext fun t => funext (v10_at m ρ c b j t),
    show (fun b j t n => V7 m ρ c main_v11 (ix4 b j t n)) = _ from funext fun b => funext fun j => funext fun t => funext (v11_at m ρ c b j t),
    show (fun b j t n => V7 m ρ c main_v12 (ix4 b j t n)) = _ from funext fun b => funext fun j => funext fun t => funext (v12_at m ρ c b j t),
    show (fun T p r k => V7 m ρ c main_v13 (ix4 T p r k)) = _ from funext fun T => funext fun p => funext fun r => funext (v13_at m ρ c T p r)]

/-- The last region's other arrays. -/
theorem w9_x (c : Dev nD) (b : Fin 2) (t : Fin 16384) (r : Fin 32768) (hr : r.val = b.val * 16384 + t.val) (k : Fin 1024) :
    W9 m ρ c main_v0 (ix2 r k) = (kargs m c).x b t k := by
  have e1 : (⟨r.val / 16384, by omega⟩ : Fin 2) = b := Fin.ext (by simp; omega)
  have e2 : (⟨r.val % 16384, by omega⟩ : Fin 16384) = t := Fin.ext (by simp; omega)
  rw [W9_of m ρ c main_v0 (by decide), W8_of m ρ c main_v0 (by decide), W7_of m ρ c main_v0 (by decide),
    W6_of m ρ c main_v0 (by decide), W5_of m ρ c main_v0 (by decide), W4_of m ρ c main_v0 (by decide),
    W3_of m ρ c main_v0 (by decide), W2_of m ρ c main_v0 (by decide)]
  exact (v0_at m ρ c r k).trans (by rw [e1, e2])

theorem w9_wo (c : Dev nD) (k n : Fin 1024) : W9 m ρ c main_v16 (ix2 k n) = (kargs m c).wo k n := by
  unfold W9
  after_reads_at
  rw [W8_args m ρ c main_arg7 (by decide)]; rfl

theorem w9_bo (c : Dev nD) (n : Fin 1024) : W9 m ρ c main_v17 (ix2 0 n) = (kargs m c).bo n := by
  unfold W9
  after_reads_at
  rw [W8_args m ρ c main_arg8 (by decide)]; rfl

theorem w9_gffn (c : Dev nD) (n : Fin 1024) : W9 m ρ c main_v18 (ix2 0 n) = (kargs m c).gffn n := by
  unfold W9
  after_reads_at
  rw [W8_args m ρ c main_arg2 (by decide)]; rfl

theorem w9_wg (c : Dev nD) (k : Fin 1024) (f : Fin 2816) : W9 m ρ c main_v19 (ix2 k f) = (kargs m c).wg k f := by
  unfold W9
  after_reads_at
  rw [W8_args m ρ c main_arg9 (by decide)]; rfl

theorem w9_wu (c : Dev nD) (k : Fin 1024) (f : Fin 2816) : W9 m ρ c main_v20 (ix2 k f) = (kargs m c).wu k f := by
  unfold W9
  after_reads_at
  rw [W8_args m ρ c main_arg10 (by decide)]; rfl

theorem w9_wd (c : Dev nD) (f : Fin 2816) (n : Fin 1024) : W9 m ρ c main_v21 (ix2 f n) = (kargs m c).wd f n := by
  unfold W9
  after_reads_at
  rw [W8_args m ρ c main_arg11 (by decide)]; rfl

theorem w9_gfin (c : Dev nD) (n : Fin 1024) : W9 m ρ c main_v22 (ix2 0 n) = (kargs m c).gfin n := by
  unfold W9
  after_reads_at
  rw [W8_args m ρ c main_arg3 (by decide)]; rfl

/-- The kernel's result at an index, from the arguments. -/
theorem v24_at (c : Dev nD) (b : Fin 2) (t : Fin 16384) (n : Fin 1024) :
    W11 m ρ c main_v24 (ix3 b t n) = (kargs m c).out (katt (kargs m c)) b t n := by
  unfold W11
  after_reads_at
  refine (congrFun ((W10_arr m ρ c 9).trans (tail_final (V9 m ρ) c)) _).trans ?_
  show tailrow (V9 m ρ) c ⟨b.val * 16384 + t.val, _⟩ n = _
  unfold tailrow Args.out
  rw [show (fun k => V9 m ρ c main_v0 (ix2 _ k)) = _ from funext (w9_x m ρ c b t _ rfl),
    show (fun k => V9 m ρ c main_v15 (ix2 _ k)) = _ from funext (v15_at m ρ c b t _ rfl),
    show (fun k n => V9 m ρ c main_v16 (ix2 k n)) = _ from funext fun k => funext (w9_wo m ρ c k),
    show (fun n => V9 m ρ c main_v17 (ix2 0 n)) = _ from funext (w9_bo m ρ c),
    show (fun n => V9 m ρ c main_v18 (ix2 0 n)) = _ from funext (w9_gffn m ρ c),
    show (fun k n => V9 m ρ c main_v19 (ix2 k n)) = _ from funext fun k => funext (w9_wg m ρ c k),
    show (fun k n => V9 m ρ c main_v20 (ix2 k n)) = _ from funext fun k => funext (w9_wu m ρ c k),
    show (fun k n => V9 m ρ c main_v21 (ix2 k n)) = _ from funext fun k => funext (w9_wd m ρ c k),
    show (fun n => V9 m ρ c main_v22 (ix2 0 n)) = _ from funext (w9_gfin m ρ c)]

end Cert.KernelIdeal.Value

end
-- ==== Proof.Equation.lean ====
/- The two forms of the attended rows are equal where queries, keys, values and biases are real numbers: a softmax in
   powers of two over a block's 768 keys, all but 128 masked, and a softmax over the 128 places of the window. -/
module

public import proofs.«01_k».proof.Proof.RefAttend
public import proofs.«01_k».proof.Proof.Chain
public import proofs.«01_k».proof.Proof.Softmax

@[expose] public section

set_option maxRecDepth 16384

noncomputable section

namespace Cert.Layer

open Idealize.ShloMosaic
open Cert.KernelIdeal.Value (keyBlk keyPos biasType headOut attOf colStart colIn rotLane tileVal rowStart rowIn biasTab padTab tok katt)
open Cert.ReferenceIdeal.Value (winRow winCol rowOff colOff tokOf logit expo ratt)

/-- The key of token `t`'s block that stands at window place `w`. -/
def winKey (t : Fin 16384) (w : Fin 128) : Fin 768 :=
  ⟨(min (t.val / 64 - 4) 248 + w.val / 16 - 4 * min (t.val / 256 - 1) 61) * 64 + (min (t.val % 64 - 8) 48 + w.val % 16), by omega⟩

theorem winKey_inj (t : Fin 16384) : Function.Injective (winKey t) := by
  intro w w' e
  have e := congrArg Fin.val e
  simp only [winKey] at e
  apply Fin.ext
  omega

/-- The key's token is the window's. -/
theorem winKey_tok (t : Fin 16384) (w : Fin 128) :
    tok (keyBlk ⟨t.val / 256, by omega⟩ (winKey t w)) (keyPos (winKey t w))
      = tokOf (winRow ⟨t.val / 64, by omega⟩ ⟨w.val / 16, by omega⟩) (winCol ⟨t.val % 64, by omega⟩ ⟨w.val % 16, by omega⟩) := by
  apply Fin.ext
  simp only [tok, keyBlk, keyPos, winKey, tokOf, winRow, winCol]
  omega

theorem tok_self (t : Fin 16384) : tok ⟨t.val / 256, by omega⟩ ⟨t.val % 256, by omega⟩ = t := by
  apply Fin.ext
  simp only [tok]
  omega

theorem tokOf_self (t : Fin 16384) : tokOf ⟨t.val / 64, by omega⟩ ⟨t.val % 64, by omega⟩ = t := by
  apply Fin.ext
  simp only [tokOf]
  omega

/-- A block's first window row, from its table. -/
theorem rowStart_eq (t : Fin 16384) :
    rowStart (biasType ⟨t.val / 256, by omega⟩).val (t.val % 256 / 64) = min (t.val / 64 - 4) 248 - 4 * min (t.val / 256 - 1) 61
      ∧ 4 * (biasType ⟨t.val / 256, by omega⟩).val + t.val % 256 / 64 = t.val / 64 - 4 * min (t.val / 256 - 1) 61 := by
  unfold biasType rowStart
  have h : t.val / 256 < 64 := by omega
  split_ifs <;> simp_all <;> omega

/-- What lets a key through: its column and its row lie in the window. -/
def keyIn (t : Fin 16384) (κ : Fin 768) : Bool :=
  colIn (t.val % 256 % 64) (κ.val % 64) && rowIn (biasType ⟨t.val / 256, by omega⟩).val (t.val % 256 / 64) (κ.val / 64)

theorem keyIn_iff (t : Fin 16384) (κ : Fin 768) : keyIn t κ = true ↔
    (min (t.val % 64 - 8) 48 ≤ κ.val % 64 ∧ κ.val % 64 < min (t.val % 64 - 8) 48 + 16)
      ∧ (min (t.val / 64 - 4) 248 - 4 * min (t.val / 256 - 1) 61 ≤ κ.val / 64
        ∧ κ.val / 64 < min (t.val / 64 - 4) 248 - 4 * min (t.val / 256 - 1) 61 + 8) := by
  unfold keyIn colIn rowIn colStart
  rw [(rowStart_eq t).1, show t.val % 256 % 64 = t.val % 64 by omega, show κ.val % 64 % 64 = κ.val % 64 by omega]
  simp

theorem keyIn_winKey (t : Fin 16384) (w : Fin 128) : keyIn t (winKey t w) = true := by
  rw [keyIn_iff]
  simp only [winKey]
  omega

/-- A key that is let through stands at a place of the window. -/
theorem keyIn_place (t : Fin 16384) (κ : Fin 768) (h : keyIn t κ = true) : ∃ w, winKey t w = κ := by
  rw [keyIn_iff] at h
  refine ⟨⟨(κ.val / 64 - (min (t.val / 64 - 4) 248 - 4 * min (t.val / 256 - 1) 61)) * 16 + (κ.val % 64 - min (t.val % 64 - 8) 48), by omega⟩, ?_⟩
  apply Fin.ext
  simp only [winKey]
  omega

/-- The row and the lane of the padded tables that a key row `a` and a key column `k` read, at query row `q` and column `c`. -/
theorem tab_place (a k q c e l : ℕ) (ha : a < 12) (hk : k < 64) (hc : c < 64) (h1 : q ≤ a + 7) (h2 : a ≤ q + 7) (h3 : c ≤ k + 15) (h4 : k ≤ c + 15)
    (he : e = ((a * 64 + k) / 128 * 2 + 8 - q) % 16) (hl : l = ((a * 64 + k) % 128 + 143 - c) % 128) :
    (l = k + 15 - c ∧ e = a + 8 - q) ∨ (l = 64 + (k + 15 - c) ∧ e = a + 7 - q) := by
  have d1 : (a * 64 + k) / 128 = a / 2 := by omega
  have d2 : (a * 64 + k) % 128 = a % 2 * 64 + k := by omega
  rw [d1] at he
  rw [d2] at hl
  rcases Nat.mod_two_eq_zero_or_one a with h | h
  · left; rw [h] at hl; omega
  · right; rw [h] at hl; omega

/-- The padded tables hold a bias in the left half of one row and in the right half of the row before. -/
theorem padTab_place (rpb : Fin 16 → Fin 15 → Fin 31 → EReal) (h e : Fin 16) (l : Fin 128) (o : Fin 15) (p : Fin 31)
    (H : (l.val = p.val ∧ e.val = o.val + 1) ∨ (l.val = 64 + p.val ∧ e.val = o.val)) : padTab rpb h e l = rpb h o p := by
  unfold padTab
  rcases H with ⟨h1, h2⟩ | ⟨h1, h2⟩
  · rw [dif_pos (by omega), dif_pos (by omega)]
    congr 1 <;> apply Fin.ext <;> dsimp only <;> omega
  · rw [dif_neg (by omega), dif_pos (by omega)]
    congr 1 <;> apply Fin.ext <;> dsimp only <;> omega

/-- The padded tables hold, at a window key, the bias of the window's offsets. -/
theorem padTab_win (rpb : Fin 16 → Fin 15 → Fin 31 → EReal) (h : Fin 16) (t : Fin 16384) (w : Fin 128) (e : Fin 16) (l : Fin 128)
    (he : e.val = ((winKey t w).val / 128 * 2 + 8 - (4 * (biasType ⟨t.val / 256, by omega⟩).val + t.val % 256 / 64)) % 16)
    (hl : l.val = ((winKey t w).val % 128 + 143 - t.val % 256 % 64) % 128) :
    padTab rpb h e l
      = rpb h (rowOff ⟨t.val / 64, by omega⟩ ⟨w.val / 16, by omega⟩) (colOff ⟨t.val % 64, by omega⟩ ⟨w.val % 16, by omega⟩) := by
  rw [(rowStart_eq t).2] at he
  rw [show t.val % 256 % 64 = t.val % 64 by omega] at hl
  have b1 : min (t.val / 64 - 4) 248 + w.val / 16 - 4 * min (t.val / 256 - 1) 61 < 12 := by omega
  have b2 : t.val / 64 - 4 * min (t.val / 256 - 1) 61 ≤ min (t.val / 64 - 4) 248 + w.val / 16 - 4 * min (t.val / 256 - 1) 61 + 7 := by omega
  have b3 : min (t.val / 64 - 4) 248 + w.val / 16 - 4 * min (t.val / 256 - 1) 61 ≤ t.val / 64 - 4 * min (t.val / 256 - 1) 61 + 7 := by omega
  have b4 : 4 * min (t.val / 256 - 1) 61 ≤ min (t.val / 64 - 4) 248 := by omega
  have b5 : min (t.val / 64 - 4) 248 ≤ t.val / 64 := by omega
  have b6 : t.val / 64 ≤ min (t.val / 64 - 4) 248 + 7 := by omega
  have key := tab_place _ (min (t.val % 64 - 8) 48 + w.val % 16) _ (t.val % 64) _ _ b1 (by omega) (by omega) b2 b3 (by omega) (by omega) he hl
  refine padTab_place rpb h e l _ _ ?_
  simp only [rowOff, winRow, colOff, winCol]
  clear he hl
  generalize min (t.val / 64 - 4) 248 = R at *
  generalize 4 * min (t.val / 256 - 1) 61 = B at *
  generalize min (t.val % 64 - 8) 48 = C at *
  generalize t.val / 64 = r at *
  generalize w.val / 16 = i at *
  rcases key with ⟨k1, k2⟩ | ⟨k1, k2⟩
  · left; exact ⟨k1, by omega⟩
  · right; exact ⟨k1, by omega⟩

theorem eighth : Ideal.ofBits .f32 0x3E000000#32 = (((1 / 8 : ℝ)) : EReal) := by
  simp [Ideal.ofBits, Ideal.ieee, -EReal.coe_mul]
  norm_num

section Real
variable (A : Args) (zr : Fin 2 → Fin 16384 → Fin 3072 → ℝ) (rr : Fin 16 → Fin 15 → Fin 31 → ℝ)

/-- The logit as a real number. -/
def rlogit (b : Fin 2) (h : Fin 16) (t : Fin 16384) (w : Fin 128) : ℝ :=
  (∑ d : Fin 64, zr b t ⟨h.val * 64 + d.val, by omega⟩ * (1 / 8)
      * zr b (tokOf (winRow ⟨t.val / 64, by omega⟩ ⟨w.val / 16, by omega⟩) (winCol ⟨t.val % 64, by omega⟩ ⟨w.val % 16, by omega⟩)) ⟨1024 + (h.val * 64 + d.val), by omega⟩)
    + rr h (rowOff ⟨t.val / 64, by omega⟩ ⟨w.val / 16, by omega⟩) (colOff ⟨t.val % 64, by omega⟩ ⟨w.val % 16, by omega⟩)

variable (hz : ∀ b t n, A.z b t n = (zr b t n : EReal)) (hr : ∀ h e l, A.rpb h e l = (rr h e l : EReal))

include hz hr in
theorem logit_real (b : Fin 2) (h : Fin 16) (t : Fin 16384) (w : Fin 128) :
    logit A b h ⟨t.val / 64, by omega⟩ ⟨t.val % 64, by omega⟩ w = (rlogit zr rr b h t w : EReal) := by
  unfold logit rlogit
  rw [EReal.coe_add, coe_sum, tokOf_self]
  simp only [hz, hr, eighth, EReal.coe_mul]

/-- The score of a key as the kernel computes it. -/
def score (b : Fin 2) (t : Fin 16384) (n : Fin 1024) (κ : Fin 768) : EReal :=
  (∑ d : Fin 64, A.z b t ⟨n.val / 64 * 64 + d.val, by omega⟩ * (((8 * (Real.log 2))⁻¹ : ℝ) : EReal)
      * A.z b (tok (keyBlk ⟨t.val / 256, by omega⟩ κ) (keyPos κ)) ⟨1024 + (n.val / 64 * 64 + d.val), by omega⟩)
    + (if keyIn t κ then padTab A.rpb ⟨n.val / 64, by omega⟩
          ⟨(κ.val / 128 * 2 + 8 - (4 * (biasType ⟨t.val / 256, by omega⟩).val + t.val % 256 / 64)) % 16, by omega⟩
          ⟨(κ.val % 128 + 143 - t.val % 256 % 64) % 128, by omega⟩ * (((Real.log 2)⁻¹ : ℝ) : EReal) else ⊥)

theorem katt_score (b : Fin 2) (t : Fin 16384) (n : Fin 1024) :
    katt A b t n = headOut (score A b t n)
      (fun κ => A.z b (tok (keyBlk ⟨t.val / 256, by omega⟩ κ) (keyPos κ)) ⟨2048 + n.val, by omega⟩) := by
  unfold katt attOf
  refine congrArg (fun s => headOut s _) (funext fun κ => ?_)
  unfold score
  refine congrArg₂ (fun a b : EReal => a + b) (Finset.sum_congr rfl fun d _ => ?_) ?_
  · dsimp only; rw [tok_self]
  · simp only [biasTab, tileVal, keyIn, rotLane]
    have e1 : (⟨n.val / 128 * 2 + (n.val / 64 % 2 * 256 + t.val % 256) / 256, by omega⟩ : Fin 16) = ⟨n.val / 64, by omega⟩ := by
      apply Fin.ext; dsimp only; omega
    have e2 : (n.val / 64 % 2 * 256 + t.val % 256) % 256 = t.val % 256 := by omega
    simp only [e1, e2]
    rfl

include hz hr in
theorem score_win (b : Fin 2) (t : Fin 16384) (n : Fin 1024) (w : Fin 128) :
    score A b t n (winKey t w) = ((rlogit zr rr b ⟨n.val / 64, by omega⟩ t w / Real.log 2 : ℝ) : EReal) := by
  have hl : Real.log 2 ≠ 0 := (Real.log_pos (by norm_num)).ne'
  unfold score
  rw [if_pos (keyIn_winKey t w), winKey_tok, padTab_win A.rpb _ t w _ _ rfl rfl, hr, ← EReal.coe_mul]
  simp only [hz, ← EReal.coe_mul]
  rw [← coe_sum, ← EReal.coe_add]
  congr 1
  unfold rlogit
  rw [add_div, Finset.sum_div]
  congr 1
  refine Finset.sum_congr rfl fun d _ => ?_
  field_simp

theorem score_mask (b : Fin 2) (t : Fin 16384) (n : Fin 1024) (κ : Fin 768) (h : ∀ w, winKey t w ≠ κ) : score A b t n κ = ⊥ := by
  unfold score
  rw [if_neg (fun hk => by obtain ⟨w, e⟩ := keyIn_place t κ hk; exact h w e)]
  exact EReal.add_bot _

include hz hr in
theorem att_real (b : Fin 2) (t : Fin 16384) (n : Fin 1024) : katt A b t n = ratt A b t n := by
  rw [katt_score]
  unfold headOut ratt expo
  simp only [logit_real A zr rr hz hr]
  have key := softmax_block (winKey t) (winKey_inj t) (rlogit zr rr b ⟨n.val / 64, by omega⟩ t)
    (fun κ => zr b (tok (keyBlk ⟨t.val / 256, by omega⟩ κ) (keyPos κ)) ⟨2048 + n.val, by omega⟩) (score A b t n)
    (score_win A zr rr hz hr b t n) (score_mask A b t n)
  simp only [hz]
  refine key.trans ?_
  rw [← Finset.sum_product', ← (finProdFinEquiv (m := 8) (n := 16)).sum_comp]
  refine Finset.sum_congr rfl fun p _ => ?_
  have e : finProdFinEquiv p = (⟨p.1.val * 16 + p.2.val, by omega⟩ : Fin 128) := by
    apply Fin.ext; simp only [finProdFinEquiv_apply_val]; omega
  rw [e, winKey_tok]
  have e1 : (⟨(p.1.val * 16 + p.2.val) / 16, by omega⟩ : Fin 8) = p.1 := by apply Fin.ext; dsimp only; omega
  have e2 : (⟨(p.1.val * 16 + p.2.val) % 16, by omega⟩ : Fin 16) = p.2 := by apply Fin.ext; dsimp only; omega
  have e3 : (⟨2048 + (n.val / 64 * 64 + n.val % 64), by omega⟩ : Fin 3072) = ⟨2048 + n.val, by omega⟩ := by apply Fin.ext; dsimp only; omega
  simp only [e1, e2, e3]

end Real

/-- The attended rows agree where the projections and the biases are real. -/
theorem katt_eq (A : Args) (hz : ∀ b t n, IsReal (A.z b t n)) (hr : ∀ h e l, IsReal (A.rpb h e l)) : katt A = ratt A := by
  choose zr hz using hz
  choose rr hr using hr
  exact funext fun b => funext fun t => funext fun n => att_real A zr rr hz hr b t n

end Cert.Layer

end
-- ==== Proof.InRows.lean ====
/- The input part's block: the projected rows with the rows on either side, and the three taps read back from where they are kept. -/
module

public import proofs.«01_k».proof.Proof.Gen.HyenaInIdeal.Frame
public import proofs.«01_k».proof.Proof.Spec
public import Idealize.ShloMosaic.Lib.Pointwise
public import Idealize.ShloMosaic.Lib.Pipeline.ValueKit
public import Idealize.ShloMosaic.Lib.KernelVsHost

@[expose] public section

set_option maxRecDepth 16384

noncomputable section

namespace Cert.HyenaInIdeal.Value

open Idealize.ShloMosaic Idealize.ShloMosaic.TcCoe Idealize.SL.Sem
open Cert.HyenaInIdeal Cert.HyenaInIdeal.Gen Cert.Layer

/-- The block's rows with eight rows before them and eight after. -/
def wide (x0 : Vec Ideal S1x8x1024 .f32) (x1 : Vec Ideal S1x512x1024 .f32) (x2 : Vec Ideal S1x8x1024 .f32) (p : Fin 528) (k : Fin 1024) : EReal :=
  if h : p.val < 8 then x0 (ix3 0 ⟨p.val, h⟩ k) else if h' : p.val < 520 then x1 (ix3 0 ⟨p.val - 8, by omega⟩ k)
    else x2 (ix3 0 ⟨p.val - 520, by omega⟩ k)

/-- The normalised wide rows. -/
theorem norm_at (x0 : Vec Ideal S1x8x1024 .f32) (x1 : Vec Ideal S1x512x1024 .f32) (x2 : Vec Ideal S1x8x1024 .f32) (g : Vec Ideal S1x1024 .f32)
    (p : Fin 528) (k : Fin 1024) : k0_pay2 x0 x1 x2 g (ix2 p k) = rms (wide x0 x1 x2 p) (fun k => g (ix2 0 k)) k := by
  have hw : ∀ k, concatenate S528x1024 0 [⟨S8x1024, shapeCast S8x1024 x0 shapeCasts_S1x8x1024_S8x1024⟩,
      ⟨S512x1024, shapeCast S512x1024 x1 shapeCasts_S1x512x1024_S512x1024⟩, ⟨S8x1024, shapeCast S8x1024 x2 shapeCasts_S1x8x1024_S8x1024⟩]
      concatenates_S8x1024_S512x1024_S8x1024_S528x1024_d0 (ix2 p k) = wide x0 x1 x2 p k := by
    intro k
    unfold wide
    pointwise
    by_cases h1 : p.val < 8
    · rw [dif_pos h1, dif_pos h1]
    · rw [dif_neg h1, dif_neg h1]
      by_cases h2 : p.val < 520
      · rw [dif_pos (by omega), dif_pos h2]
      · rw [dif_neg (by omega), dif_neg h2]
        exact congrArg (fun q => x2 (ix3 0 q k)) (Fin.ext (by show p.val - 8 - 512 = p.val - 520; omega))
  unfold k0_pay2 rms
  generalize concatenate S528x1024 0 _ _ = W at hw ⊢
  pointwise
  simp only [hw]

/-- Which wide rows lie in the sequence. -/
theorem inside_at (i : grid0.Coords) (p : Fin 528) :
    k0_pay4 i (ix2 p 0) = if (8 ≤ p.val ∨ 0 < (i 1).val) ∧ (p.val < 520 ∨ (i 1).val < 31) then 1#1 else 0#1 := by
  have a1 : ∀ p : Fin 528, IntOp.cmpi .sge (BitVec.ofNat 32 p.val) 8#32 = if 8 ≤ p.val then 1#1 else 0#1 := by decide +kernel
  have a2 : ∀ p : Fin 528, IntOp.cmpi .slt (BitVec.ofNat 32 p.val) 520#32 = if p.val < 520 then 1#1 else 0#1 := by decide +kernel
  have b1 : ∀ q : Fin 32, Scalar.cmpi .sgt (BitVec.ofNat 32 q.val) 0#32 = if 0 < q.val then 1#1 else 0#1 := by decide +kernel
  have b2 : ∀ q : Fin 32, Scalar.cmpi .slt (BitVec.ofNat 32 q.val) 31#32 = if q.val < 31 then 1#1 else 0#1 := by decide +kernel
  have b1 := b1 ⟨(i 1).val, (i 1).isLt⟩
  have b2 := b2 ⟨(i 1).val, (i 1).isLt⟩
  pointwise [k0_pay4]
  rw [a1, a2, b1, b2]
  by_cases h1 : 8 ≤ p.val <;> by_cases h2 : 0 < (i 1).val <;> by_cases h3 : p.val < 520 <;> by_cases h4 : (i 1).val < 31 <;>
    simp only [h1, h2, h3, h4, if_true, if_false, or_self, or_true, true_or, and_self, and_true, true_and, or_false, false_or, and_false, false_and] <;> decide

/-- The projected wide rows; a row outside the sequence is minus the offset. -/
theorem z_at (x0 : Vec Ideal S1x8x1024 .f32) (x1 : Vec Ideal S1x512x1024 .f32) (x2 : Vec Ideal S1x8x1024 .f32) (g : Vec Ideal S1x1024 .f32)
    (w : Vec Ideal S1024x3072 .bf16) (b : Vec Ideal S1x3072 .f32) (i : grid0.Coords) (p : Fin 528) (n : Fin 3072) :
    k0_pay5 (k0_pay2 x0 x1 x2 g) (k0_pay3 b) (k0_pay4 i) w (ix2 p n)
      = if (8 ≤ p.val ∨ 0 < (i 1).val) ∧ (p.val < 520 ∨ (i 1).val < 31)
          then ∑ k, rms (wide x0 x1 x2 p) (fun k => g (ix2 0 k)) k * w (ix2 k n) else 0 - b (ix2 0 n) := by
  pointwise [k0_pay5, k0_pay3]
  rw [inside_at]
  simp only [norm_at]
  by_cases h : (8 ≤ p.val ∨ 0 < (i 1).val) ∧ (p.val < 520 ∨ (i 1).val < 31)
  · rw [if_pos h, if_pos h]; rfl
  · rw [if_neg h, if_neg h]; rfl

section taps
variable (h : FVec Ideal S528x1024 .bf16) (b : FVec Ideal S1x3072 .f32) (q : IVec S528x1 1) (w : Vec Ideal S1024x3072 .bf16)

theorem z0_at (p : Fin 528) (n : Fin 3072) (hp : 0 < p.val) : k0_pay6 h b q w (ix3 0 p n) = k0_pay5 h b q w (ix2 ⟨p.val - 1, by omega⟩ n) := by
  unfold k0_pay6
  refine (shapeCast_apply _ _ _ (ix2 p n) (by rw [Shape.rowMajor_val_two, Shape.rowMajor_val_three]; show p.val * 3072 + n.val = (0 * 528 + p.val) * 3072 + n.val; omega)).trans ?_
  refine dynamicRotate_apply _ _ _ _ _ _ (fun a => match a with
    | 0 => by change p.val - 1 = (p.val + 528 - 1 % 528) % 528; omega
    | 1 => rfl)

theorem z1_at (p : Fin 528) (n : Fin 3072) : k0_pay7 h b q w (ix3 0 p n) = k0_pay5 h b q w (ix2 p n) := by
  unfold k0_pay7
  exact shapeCast_apply _ _ _ (ix2 p n) (by rw [Shape.rowMajor_val_two, Shape.rowMajor_val_three]; show p.val * 3072 + n.val = (0 * 528 + p.val) * 3072 + n.val; omega)

theorem z2_at (p : Fin 528) (n : Fin 3072) (hp : p.val < 527) : k0_pay8 h b q w (ix3 0 p n) = k0_pay5 h b q w (ix2 ⟨p.val + 1, by omega⟩ n) := by
  unfold k0_pay8
  refine (shapeCast_apply _ _ _ (ix2 p n) (by rw [Shape.rowMajor_val_two, Shape.rowMajor_val_three]; show p.val * 3072 + n.val = (0 * 528 + p.val) * 3072 + n.val; omega)).trans ?_
  refine dynamicRotate_apply _ _ _ _ _ _ (fun a => match a with
    | 0 => by change p.val + 1 = (p.val + 528 - 527 % 528) % 528; omega
    | 1 => rfl)

end taps

section kept
variable (P2 P1 P0 : FVec Ideal S1x528x3072 .f32)

/-- The three shifted copies as they are kept. -/
abbrev kept : List (View.Piece (Elt Ideal) S3x528x3072 .f32) :=
  [⟨Rect.unit ![2, 0, 0] ![1, 528, 3072] inb_S3x528x3072_S1x528x3072_2_0_0, P2⟩,
    ⟨Rect.unit ![1, 0, 0] ![1, 528, 3072] inb_S3x528x3072_S1x528x3072_1_0_0, P1⟩,
    ⟨Rect.unit ![0, 0, 0] ![1, 528, 3072] inb_S3x528x3072_S1x528x3072_0_0_0, P0⟩]

/-- Copy 0 read back. -/
theorem kept0 {o : Nat} (inb : ∀ a, (![0, 8, o] : Fin 3 → Nat) a + (![1, 512, 1024] : Fin 3 → Nat) a ≤ S3x528x3072.size a)
    (r : Fin 512) (n : Fin 1024) (k : Fin 3072) (hk : k.val = o + n.val) :
    (View.whole cc0_scratch0).readCov (kept P2 P1 P0) (Rect.unit (s := S3x528x3072) ![0, 8, o] ![1, 512, 1024] inb).toLoadRect (ix3 0 r n)
      = P0 (ix3 0 ⟨r.val + 8, by omega⟩ k) := by
  rw [View.readCov_eq_canon']
  canon_tiles x h
  all_goals
    rw [Rect.idx_unit_val] at h0 h1 h2
    change 0 + 0 = _ at h0
    change 8 + r.val = _ at h1
    change o + n.val = _ at h2
    first
    | (exfalso; omega)
    | exact congrArg P0 (funext fun a => Fin.ext (match a with
        | 0 => by show (x 0).val = 0; omega
        | 1 => by show (x 1).val = r.val + 8; omega
        | 2 => by show (x 2).val = k.val; omega))

/-- Copy 1 read back. -/
theorem kept1 {o : Nat} (inb : ∀ a, (![1, 8, o] : Fin 3 → Nat) a + (![1, 512, 1024] : Fin 3 → Nat) a ≤ S3x528x3072.size a)
    (r : Fin 512) (n : Fin 1024) (k : Fin 3072) (hk : k.val = o + n.val) :
    (View.whole cc0_scratch0).readCov (kept P2 P1 P0) (Rect.unit (s := S3x528x3072) ![1, 8, o] ![1, 512, 1024] inb).toLoadRect (ix3 0 r n)
      = P1 (ix3 0 ⟨r.val + 8, by omega⟩ k) := by
  rw [View.readCov_eq_canon']
  canon_tiles x h
  all_goals
    rw [Rect.idx_unit_val] at h0 h1 h2
    change 1 + 0 = _ at h0
    change 8 + r.val = _ at h1
    change o + n.val = _ at h2
    first
    | (exfalso; omega)
    | exact congrArg P1 (funext fun a => Fin.ext (match a with
        | 0 => by show (x 0).val = 0; omega
        | 1 => by show (x 1).val = r.val + 8; omega
        | 2 => by show (x 2).val = k.val; omega))

/-- Copy 2 read back. -/
theorem kept2 {o : Nat} (inb : ∀ a, (![2, 8, o] : Fin 3 → Nat) a + (![1, 512, 1024] : Fin 3 → Nat) a ≤ S3x528x3072.size a)
    (r : Fin 512) (n : Fin 1024) (k : Fin 3072) (hk : k.val = o + n.val) :
    (View.whole cc0_scratch0).readCov (kept P2 P1 P0) (Rect.unit (s := S3x528x3072) ![2, 8, o] ![1, 512, 1024] inb).toLoadRect (ix3 0 r n)
      = P2 (ix3 0 ⟨r.val + 8, by omega⟩ k) := by
  rw [View.readCov_eq_canon']
  canon_tiles x h
  all_goals
    rw [Rect.idx_unit_val] at h0 h1 h2
    change 2 + 0 = _ at h0
    change 8 + r.val = _ at h1
    change o + n.val = _ at h2
    first
    | (exfalso; omega)
    | exact congrArg P2 (funext fun a => Fin.ext (match a with
        | 0 => by show (x 0).val = 0; omega
        | 1 => by show (x 1).val = r.val + 8; omega
        | 2 => by show (x 2).val = k.val; omega))

end kept

/-- A row of the short filter, from column `o` on. -/
theorem filter_at {a o : Nat} (cw : Vec Ideal S3x3072 .f32) (q : Nat) (inb : ∀ d, (![a, o] : Fin 2 → Nat) d + (![1, q] : Fin 2 → Nat) d ≤ S3x3072.size d)
    (n : Fin q) (j : Fin 3) (k : Fin 3072) (hj : j.val = a) (hk : k.val = o + n.val) :
    View.ld cw (Rect.unit (s := S3x3072) ![a, o] ![1, q] inb) (ix2 0 n) = cw (ix2 j k) :=
  congrArg cw (funext fun d => Fin.ext (match d with
    | 0 => by show a + 1 * 0 = j.val; omega
    | 1 => by show o + 1 * n.val = k.val; omega))

/-- The three taps of the block, and its offset. -/
def taps (c0 c1 c2 cb b z0 z1 z2 : EReal) : EReal := c0 * z0 + c1 * z1 + c2 * z2 + (cb + b * (c0 + c1 + c2))

theorem pay10_at (v : FVec Ideal S1x3072 .f32) (c0 c1 c2 : Vec Ideal S1x1024 .f32) (Z0 Z1 Z2 : Vec Ideal S1x512x1024 .f32)
    (r : Fin 512) (n : Fin 1024) (k : Fin 3072) (hk : k.val = n.val) :
    k0_pay10 v c0 Z0 c1 Z1 c2 Z2 (ix3 0 r n)
      = c0 (ix2 0 n) * Z0 (ix3 0 r n) + c1 (ix2 0 n) * Z1 (ix3 0 r n) + c2 (ix2 0 n) * Z2 (ix3 0 r n) + v (ix2 0 k) := by
  rw [show v (ix2 0 k) = v (ix2 0 ⟨n.val, by omega⟩) from congrArg (fun q => v (ix2 0 q)) (Fin.ext hk)]
  pointwise [k0_pay10]

theorem pay12_at (v : FVec Ideal S1x3072 .f32) (c0 c1 c2 d0 d1 d2 : Vec Ideal S1x1024 .f32) (Z0 Z1 Z2 Y0 Y1 Y2 : Vec Ideal S1x512x1024 .f32)
    (r : Fin 512) (n : Fin 1024) (k l : Fin 3072) (hk : k.val = 2048 + n.val) (hl : l.val = 1024 + n.val) :
    k0_pay12 v (k0_pay11 c0 Z0 c1 Z1) c2 Z2 d0 Y0 d1 Y1 d2 Y2 (ix2 r n)
      = (c0 (ix2 0 n) * Z0 (ix3 0 r n) + c1 (ix2 0 n) * Z1 (ix3 0 r n) + c2 (ix2 0 n) * Z2 (ix3 0 r n) + v (ix2 0 k))
        * (d0 (ix2 0 n) * Y0 (ix3 0 r n) + d1 (ix2 0 n) * Y1 (ix3 0 r n) + d2 (ix2 0 n) * Y2 (ix3 0 r n) + v (ix2 0 l)) := by
  rw [show v (ix2 0 k) = v (ix2 0 ⟨2048 + n.val, by omega⟩) from congrArg (fun q => v (ix2 0 q)) (Fin.ext hk)]
  rw [show v (ix2 0 l) = v (ix2 0 ⟨1024 + n.val, by omega⟩) from congrArg (fun q => v (ix2 0 q)) (Fin.ext hl)]
  pointwise [k0_pay12, k0_pay11]

section blk
variable (x0 : Vec Ideal S1x8x1024 .f32) (x1 : Vec Ideal S1x512x1024 .f32) (x2 : Vec Ideal S1x8x1024 .f32) (g : Vec Ideal S1x1024 .f32)
    (w : Vec Ideal S1024x3072 .bf16) (b : Vec Ideal S1x3072 .f32) (cw : Vec Ideal S3x3072 .f32) (cb : Vec Ideal S1x3072 .f32) (i : grid0.Coords)

/-- The projected wide rows. -/
def zrow (p : Fin 528) (n : Fin 3072) : EReal :=
  if (8 ≤ p.val ∨ 0 < (i 1).val) ∧ (p.val < 520 ∨ (i 1).val < 31)
    then ∑ k, rms (wide x0 x1 x2 p) (fun k => g (ix2 0 k)) k * w (ix2 k n) else 0 - b (ix2 0 n)

/-- The convolved block at row `r`, column `n` of the 3072. -/
def conv (r : Fin 512) (n : Fin 3072) : EReal :=
  taps (cw (ix2 0 n)) (cw (ix2 1 n)) (cw (ix2 2 n)) (cb (ix2 0 n)) (b (ix2 0 n)) (zrow x0 x1 x2 g w b i ⟨r.val + 7, by omega⟩ n)
    (zrow x0 x1 x2 g w b i ⟨r.val + 8, by omega⟩ n) (zrow x0 x1 x2 g w b i ⟨r.val + 9, by omega⟩ n)

/-- What the body keeps of the block. -/
abbrev keptB : List (View.Piece (Elt Ideal) S3x528x3072 .f32) :=
  kept (k0_pay8 (k0_pay2 x0 x1 x2 g) (k0_pay3 b) (k0_pay4 i) w) (k0_pay7 (k0_pay2 x0 x1 x2 g) (k0_pay3 b) (k0_pay4 i) w)
    (k0_pay6 (k0_pay2 x0 x1 x2 g) (k0_pay3 b) (k0_pay4 i) w)

theorem tap0 {o : Nat} (inb : ∀ a, (![0, 8, o] : Fin 3 → Nat) a + (![1, 512, 1024] : Fin 3 → Nat) a ≤ S3x528x3072.size a)
    (r : Fin 512) (n : Fin 1024) (k : Fin 3072) (hk : k.val = o + n.val) :
    (View.whole cc0_scratch0).readCov (keptB x0 x1 x2 g w b i) (Rect.unit (s := S3x528x3072) ![0, 8, o] ![1, 512, 1024] inb).toLoadRect (ix3 0 r n)
      = zrow x0 x1 x2 g w b i ⟨r.val + 7, by omega⟩ k := by
  rw [kept0 _ _ _ inb r n k hk, z0_at _ _ _ _ _ _ (by show 0 < r.val + 8; omega)]
  exact z_at ..

theorem tap1 {o : Nat} (inb : ∀ a, (![1, 8, o] : Fin 3 → Nat) a + (![1, 512, 1024] : Fin 3 → Nat) a ≤ S3x528x3072.size a)
    (r : Fin 512) (n : Fin 1024) (k : Fin 3072) (hk : k.val = o + n.val) :
    (View.whole cc0_scratch0).readCov (keptB x0 x1 x2 g w b i) (Rect.unit (s := S3x528x3072) ![1, 8, o] ![1, 512, 1024] inb).toLoadRect (ix3 0 r n)
      = zrow x0 x1 x2 g w b i ⟨r.val + 8, by omega⟩ k := by
  rw [kept1 _ _ _ inb r n k hk, z1_at]
  exact z_at ..

theorem tap2 {o : Nat} (inb : ∀ a, (![2, 8, o] : Fin 3 → Nat) a + (![1, 512, 1024] : Fin 3 → Nat) a ≤ S3x528x3072.size a)
    (r : Fin 512) (n : Fin 1024) (k : Fin 3072) (hk : k.val = o + n.val) :
    (View.whole cc0_scratch0).readCov (keptB x0 x1 x2 g w b i) (Rect.unit (s := S3x528x3072) ![2, 8, o] ![1, 512, 1024] inb).toLoadRect (ix3 0 r n)
      = zrow x0 x1 x2 g w b i ⟨r.val + 9, by omega⟩ k := by
  rw [kept2 _ _ _ inb r n k hk, z2_at _ _ _ _ _ _ (by show r.val + 8 < 527; omega)]
  exact z_at ..

/-- The offsets of the block's columns. -/
def offs : FVec Ideal S1x3072 .f32 :=
  k0_pay9 (k0_pay3 b) cb (View.ld cw (Rect.unit ![0, 0] ![1, 3072] inb_S3x3072_S1x3072_0_0))
    (View.ld cw (Rect.unit ![1, 0] ![1, 3072] inb_S3x3072_S1x3072_1_0)) (View.ld cw (Rect.unit ![2, 0] ![1, 3072] inb_S3x3072_S1x3072_2_0))

theorem offs_at (n : Fin 3072) : offs b cw cb (ix2 0 n)
    = cb (ix2 0 n) + b (ix2 0 n) * (cw (ix2 0 n) + cw (ix2 1 n) + cw (ix2 2 n)) := by
  unfold offs
  rw [← filter_at cw 3072 inb_S3x3072_S1x3072_0_0 n 0 n rfl (by omega), ← filter_at cw 3072 inb_S3x3072_S1x3072_1_0 n 1 n rfl (by omega),
    ← filter_at cw 3072 inb_S3x3072_S1x3072_2_0 n 2 n rfl (by omega)]
  generalize View.ld cw _ = l0
  generalize View.ld cw _ = l1
  generalize View.ld cw _ = l2
  pointwise [k0_pay9, k0_pay3]

/-- The second gate's block. -/
def gate0 : FVec Ideal S1x512x1024 .bf16 :=
  k0_pay10 (offs b cw cb) (View.ld cw (Rect.unit (s := S3x3072) ![0, 0] ![1, 1024] inb_S3x3072_S1x1024_0_0)) ((View.whole cc0_scratch0).readCov (keptB x0 x1 x2 g w b i) (Rect.unit (s := S3x528x3072) ![0, 8, 0] ![1, 512, 1024] inb_S3x528x3072_S1x512x1024_0_8_0).toLoadRect)
      (View.ld cw (Rect.unit (s := S3x3072) ![1, 0] ![1, 1024] inb_S3x3072_S1x1024_1_0)) ((View.whole cc0_scratch0).readCov (keptB x0 x1 x2 g w b i) (Rect.unit (s := S3x528x3072) ![1, 8, 0] ![1, 512, 1024] inb_S3x528x3072_S1x512x1024_1_8_0).toLoadRect)
      (View.ld cw (Rect.unit (s := S3x3072) ![2, 0] ![1, 1024] inb_S3x3072_S1x1024_2_0)) ((View.whole cc0_scratch0).readCov (keptB x0 x1 x2 g w b i) (Rect.unit (s := S3x528x3072) ![2, 8, 0] ![1, 512, 1024] inb_S3x528x3072_S1x512x1024_2_8_0).toLoadRect)

theorem gate0_at (r : Fin 512) (n : Fin 1024) (k : Fin 3072) (hk : k.val = n.val) :
    gate0 x0 x1 x2 g w b cw cb i (ix3 0 r n) = conv x0 x1 x2 g w b cw cb i r k := by
  have hk' : k.val = 0 + n.val := by omega
  unfold gate0 conv taps
  rw [pay10_at _ _ _ _ _ _ _ r n k hk, filter_at cw 1024 inb_S3x3072_S1x1024_0_0 n 0 k rfl hk', filter_at cw 1024 inb_S3x3072_S1x1024_1_0 n 1 k rfl hk', filter_at cw 1024 inb_S3x3072_S1x1024_2_0 n 2 k rfl hk',
    tap0 x0 x1 x2 g w b i inb_S3x528x3072_S1x512x1024_0_8_0 r n k hk', tap1 x0 x1 x2 g w b i inb_S3x528x3072_S1x512x1024_1_8_0 r n k hk', tap2 x0 x1 x2 g w b i inb_S3x528x3072_S1x512x1024_2_8_0 r n k hk', offs_at]

/-- The gated block. -/
def gateV : FVec Ideal S512x1024 .f32 :=
  k0_pay12 (offs b cw cb) (k0_pay11 (View.ld cw (Rect.unit (s := S3x3072) ![0, 2048] ![1, 1024] inb_S3x3072_S1x1024_0_2048)) ((View.whole cc0_scratch0).readCov (keptB x0 x1 x2 g w b i) (Rect.unit (s := S3x528x3072) ![0, 8, 2048] ![1, 512, 1024] inb_S3x528x3072_S1x512x1024_0_8_2048).toLoadRect)
      (View.ld cw (Rect.unit (s := S3x3072) ![1, 2048] ![1, 1024] inb_S3x3072_S1x1024_1_2048)) ((View.whole cc0_scratch0).readCov (keptB x0 x1 x2 g w b i) (Rect.unit (s := S3x528x3072) ![1, 8, 2048] ![1, 512, 1024] inb_S3x528x3072_S1x512x1024_1_8_2048).toLoadRect))
      (View.ld cw (Rect.unit (s := S3x3072) ![2, 2048] ![1, 1024] inb_S3x3072_S1x1024_2_2048)) ((View.whole cc0_scratch0).readCov (keptB x0 x1 x2 g w b i) (Rect.unit (s := S3x528x3072) ![2, 8, 2048] ![1, 512, 1024] inb_S3x528x3072_S1x512x1024_2_8_2048).toLoadRect)
      (View.ld cw (Rect.unit (s := S3x3072) ![0, 1024] ![1, 1024] inb_S3x3072_S1x1024_0_1024)) ((View.whole cc0_scratch0).readCov (keptB x0 x1 x2 g w b i) (Rect.unit (s := S3x528x3072) ![0, 8, 1024] ![1, 512, 1024] inb_S3x528x3072_S1x512x1024_0_8_1024).toLoadRect)
      (View.ld cw (Rect.unit (s := S3x3072) ![1, 1024] ![1, 1024] inb_S3x3072_S1x1024_1_1024)) ((View.whole cc0_scratch0).readCov (keptB x0 x1 x2 g w b i) (Rect.unit (s := S3x528x3072) ![1, 8, 1024] ![1, 512, 1024] inb_S3x528x3072_S1x512x1024_1_8_1024).toLoadRect)
      (View.ld cw (Rect.unit (s := S3x3072) ![2, 1024] ![1, 1024] inb_S3x3072_S1x1024_2_1024)) ((View.whole cc0_scratch0).readCov (keptB x0 x1 x2 g w b i) (Rect.unit (s := S3x528x3072) ![2, 8, 1024] ![1, 512, 1024] inb_S3x528x3072_S1x512x1024_2_8_1024).toLoadRect)

theorem gateV_at (r : Fin 512) (n : Fin 1024) (k l : Fin 3072) (hk : k.val = 2048 + n.val) (hl : l.val = 1024 + n.val) :
    gateV x0 x1 x2 g w b cw cb i (ix2 r n) = conv x0 x1 x2 g w b cw cb i r k * conv x0 x1 x2 g w b cw cb i r l := by
  unfold gateV conv taps
  rw [pay12_at _ _ _ _ _ _ _ _ _ _ _ _ _ r n k l hk hl, filter_at cw 1024 inb_S3x3072_S1x1024_0_2048 n 0 k rfl hk, filter_at cw 1024 inb_S3x3072_S1x1024_1_2048 n 1 k rfl hk, filter_at cw 1024 inb_S3x3072_S1x1024_2_2048 n 2 k rfl hk,
    tap0 x0 x1 x2 g w b i inb_S3x528x3072_S1x512x1024_0_8_2048 r n k hk, tap1 x0 x1 x2 g w b i inb_S3x528x3072_S1x512x1024_1_8_2048 r n k hk, tap2 x0 x1 x2 g w b i inb_S3x528x3072_S1x512x1024_2_8_2048 r n k hk,
    filter_at cw 1024 inb_S3x3072_S1x1024_0_1024 n 0 l rfl hl, filter_at cw 1024 inb_S3x3072_S1x1024_1_1024 n 1 l rfl hl, filter_at cw 1024 inb_S3x3072_S1x1024_2_1024 n 2 l rfl hl,
    tap0 x0 x1 x2 g w b i inb_S3x528x3072_S1x512x1024_0_8_1024 r n l hl, tap1 x0 x1 x2 g w b i inb_S3x528x3072_S1x512x1024_1_8_1024 r n l hl, tap2 x0 x1 x2 g w b i inb_S3x528x3072_S1x512x1024_2_8_1024 r n l hl, offs_at, offs_at]

end blk

end Cert.HyenaInIdeal.Value

end
-- ==== Proof.InTiles.lean ====
/- The grouped array's block as the input part stores it: 128 tiles of 32 rows by 128 channels, each cut from four places of the gated block. -/
module

public import proofs.«01_k».proof.Proof.Gen.HyenaInIdeal.Frame
public import Idealize.ShloMosaic.Lib.Pointwise
public import Idealize.ShloMosaic.Lib.Pipeline.ValueKit

@[expose] public section

set_option maxRecDepth 16384

noncomputable section

namespace Cert.HyenaInIdeal.Value

open Idealize.ShloMosaic Idealize.ShloMosaic.TcCoe Idealize.SL.Sem
open Cert.HyenaInIdeal Cert.HyenaInIdeal.Gen

/-- Four pieces of eight rows, one below the other, at row `p`. -/
theorem four_at (f : Fin 4 → FVec Ideal S8x128 .f32) (hc : Shape.Concatenates [S8x128, S8x128, S8x128, S8x128] S32x128 0)
    (p : Fin 32) (l : Fin 128) :
    concatenate S32x128 0 [⟨S8x128, f 0⟩, ⟨S8x128, f 1⟩, ⟨S8x128, f 2⟩, ⟨S8x128, f 3⟩] hc (ix2 p l)
      = f ⟨p.val / 8, by omega⟩ (ix2 ⟨p.val % 8, by omega⟩ l) :=
  concatenate_ofFn_apply (t := S32x128) (s₁ := S8x128) 0 f hc rfl 8 rfl (ix2 p l)
    ⟨p.val / 8, by omega⟩ rfl (ix2 ⟨p.val % 8, by omega⟩ l) rfl (fun b hb => by
      match b with
      | 0 => exact absurd rfl hb
      | 1 => rfl)

/-- Adding three leading unit axes to a tile keeps its entries. -/
theorem tile_cast (v : FVec Ideal S32x128 .f32) (hs : S32x128.ShapeCasts S1x1x1x32x128) (x : S1x1x1x32x128.Idx) :
    shapeCast S1x1x1x32x128 v hs x = v (ix2 ⟨(x 3).val, (x 3).isLt⟩ ⟨(x 4).val, (x 4).isLt⟩) := by
  refine shapeCast_apply _ _ x _ ?_
  rw [Shape.rowMajor_val_two, Shape.rowMajor_val_five]
  have h0 : (x 0).val < 1 := (x 0).isLt
  have h1 : (x 1).val < 1 := (x 1).isLt
  have h2 : (x 2).val < 1 := (x 2).isLt
  show (x 3).val * 128 + (x 4).val = ((((x 0).val * 1 + (x 1).val) * 1 + (x 2).val) * 32 + (x 3).val) * 128 + (x 4).val
  omega

/-- A tile cut from rows `r0`, `r0 + 128`, `r0 + 256`, `r0 + 384` and columns from `c` on, at an index. -/
theorem tile_at {r0 r1 r2 r3 c : Nat} (V : FVec Ideal S512x1024 .f32) (e1 : r1 = r0 + 128) (e2 : r2 = r0 + 256) (e3 : r3 = r0 + 384)
    (h0 : S512x1024.Slices ![r0, c] S8x128) (h1 : S512x1024.Slices ![r1, c] S8x128)
    (h2 : S512x1024.Slices ![r2, c] S8x128) (h3 : S512x1024.Slices ![r3, c] S8x128)
    (hc : Shape.Concatenates [S8x128, S8x128, S8x128, S8x128] S32x128 0) (hs : S32x128.ShapeCasts S1x1x1x32x128)
    (x : S1x1x1x32x128.Idx) (i : Fin 512) (n : Fin 1024) (hi : i.val = r0 + (x 3).val / 8 * 128 + (x 3).val % 8)
    (hn : n.val = c + (x 4).val) :
    shapeCast S1x1x1x32x128 (concatenate S32x128 0 [⟨S8x128, extractStridedSlice S8x128 ![r0, c] V h0⟩,
      ⟨S8x128, extractStridedSlice S8x128 ![r1, c] V h1⟩, ⟨S8x128, extractStridedSlice S8x128 ![r2, c] V h2⟩,
      ⟨S8x128, extractStridedSlice S8x128 ![r3, c] V h3⟩] hc) hs x = V (ix2 i n) := by
  subst e1 e2 e3
  rw [tile_cast]
  refine (four_at ![extractStridedSlice S8x128 ![r0, c] V h0, extractStridedSlice S8x128 ![r0 + 128, c] V h1,
    extractStridedSlice S8x128 ![r0 + 256, c] V h2, extractStridedSlice S8x128 ![r0 + 384, c] V h3] hc _ _).trans ?_
  have hx : (x 3).val < 32 := (x 3).isLt
  have key : ∀ a : Fin 4, a.val = (x 3).val / 8 →
      (![extractStridedSlice S8x128 ![r0, c] V h0, extractStridedSlice S8x128 ![r0 + 128, c] V h1,
        extractStridedSlice S8x128 ![r0 + 256, c] V h2, extractStridedSlice S8x128 ![r0 + 384, c] V h3] : Fin 4 → FVec Ideal S8x128 .f32) a
        (ix2 ⟨(x 3).val % 8, by omega⟩ ⟨(x 4).val, (x 4).isLt⟩) = V (ix2 i n) := by
    intro a ha
    match a with
    | 0 => exact extractStridedSlice_apply _ V h0 _ _ (fun b => match b with
        | 0 => by change i.val = r0 + (x 3).val % 8; change 0 = _ at ha; omega
        | 1 => hn)
    | 1 => exact extractStridedSlice_apply _ V h1 _ _ (fun b => match b with
        | 0 => by change i.val = r0 + 128 + (x 3).val % 8; change 1 = _ at ha; omega
        | 1 => hn)
    | 2 => exact extractStridedSlice_apply _ V h2 _ _ (fun b => match b with
        | 0 => by change i.val = r0 + 256 + (x 3).val % 8; change 2 = _ at ha; omega
        | 1 => hn)
    | 3 => exact extractStridedSlice_apply _ V h3 _ _ (fun b => match b with
        | 0 => by change i.val = r0 + 384 + (x 3).val % 8; change 3 = _ at ha; omega
        | 1 => hn)
  exact key _ rfl

/-- The gated block in the grouped layout. -/
def grouped (V : FVec Ideal S512x1024 .f32) : FVec Ideal S1x8x16x32x128 .f32 := fun y =>
  V (ix2 ⟨(y 2).val * 8 + (y 3).val / 8 * 128 + (y 3).val % 8, by
      have h2 : (y 2).val < 16 := (y 2).isLt
      have h3 : (y 3).val < 32 := (y 3).isLt
      omega⟩
    ⟨(y 1).val * 128 + (y 4).val, by
      have h1 : (y 1).val < 8 := (y 1).isLt
      have h4 : (y 4).val < 128 := (y 4).isLt
      omega⟩)

/-- A stored tile is the grouped block at its place. -/
theorem piece_eq {r0 r1 r2 r3 c : Nat} (V : FVec Ideal S512x1024 .f32)
    (h0 : S512x1024.Slices ![r0, c] S8x128) (h1 : S512x1024.Slices ![r1, c] S8x128)
    (h2 : S512x1024.Slices ![r2, c] S8x128) (h3 : S512x1024.Slices ![r3, c] S8x128)
    (hc : Shape.Concatenates [S8x128, S8x128, S8x128, S8x128] S32x128 0) (hs : S32x128.ShapeCasts S1x1x1x32x128)
    (x : S1x1x1x32x128.Idx) (y : S1x8x16x32x128.Idx) (e3 : (y 3).val = (x 3).val) (e4 : (y 4).val = (x 4).val)
    (er1 : r1 = r0 + 128) (er2 : r2 = r0 + 256) (er3 : r3 = r0 + 384) (er : r0 = (y 2).val * 8) (ec : c = (y 1).val * 128) :
    shapeCast S1x1x1x32x128 (concatenate S32x128 0 [⟨S8x128, extractStridedSlice S8x128 ![r0, c] V h0⟩,
      ⟨S8x128, extractStridedSlice S8x128 ![r1, c] V h1⟩, ⟨S8x128, extractStridedSlice S8x128 ![r2, c] V h2⟩,
      ⟨S8x128, extractStridedSlice S8x128 ![r3, c] V h3⟩] hc) hs x = grouped V y :=
  tile_at V er1 er2 er3 h0 h1 h2 h3 hc hs x _ _
    (by show (y 2).val * 8 + (y 3).val / 8 * 128 + (y 3).val % 8 = r0 + (x 3).val / 8 * 128 + (x 3).val % 8; rw [e3, er])
    (by show (y 1).val * 128 + (y 4).val = c + (x 4).val; rw [e4, ec])

end Cert.HyenaInIdeal.Value

end
-- ==== Proof.InStore.lean ====
module

public import proofs.«01_k».proof.Proof.InRows
public import proofs.«01_k».proof.Proof.InTiles

@[expose] public section

/-! What one grid point leaves in its two output blocks: the gate of its rows, and the product of the other two thirds in
tiles of eight rows. -/

set_option maxRecDepth 16384

noncomputable section

namespace Cert.HyenaInIdeal.Value

open Idealize.ShloMosaic Idealize.ShloMosaic.TcCoe Idealize.SL.Sem
open Cert.HyenaInIdeal Cert.HyenaInIdeal.Gen

variable (m : (ℓ : Loc nD τ sig) → Buf (Elt Ideal) ℓ)

/-- The second output's block after point `t`. -/
theorem after9 (c : Dev nD) (t : Fin cfg0.N) : (dats m 0 c).after 9 t
    = gate0 (iblk m c 0 t) (iblk m c 1 t) (iblk m c 2 t) (iblk m c 3 t) (iblk m c 4 t) (iblk m c 5 t) (iblk m c 6 t) (iblk m c 7 t) (grid0.coords t) := by
  rw [after0_9]
  unfold outsAt0
  dsimp only
  frame_out
  rfl

set_option maxHeartbeats 4000000 in
/-- The first output's block after point `t`: the 128 stored tiles are the product regrouped. -/
theorem after8 (c : Dev nD) (t : Fin cfg0.N) : (dats m 0 c).after 8 t
    = grouped (gateV (iblk m c 0 t) (iblk m c 1 t) (iblk m c 2 t) (iblk m c 3 t) (iblk m c 4 t) (iblk m c 5 t) (iblk m c 6 t) (iblk m c 7 t) (grid0.coords t)) := by
  rw [after0_8]
  unfold outsAt0
  dsimp only
  frame_open
  rw [View.read_writes_junk_eq_canon]
  unfold k0_pay13
  generalize hV : k0_pay12 (F := Ideal) _ _ _ _ _ _ _ _ _ _ = V
  have hG : gateV (iblk m c 0 t) (iblk m c 1 t) (iblk m c 2 t) (iblk m c 3 t) (iblk m c 4 t) (iblk m c 5 t) (iblk m c 6 t) (iblk m c 7 t) (grid0.coords t) = V := by
    rw [← hV]
    simp (disch := decide) only [View.read_writes_junk_eq_canon, View.canon_cons_unit_lit',
        View.ld_unit_lit', View.readCov_unit_lit', View.readCov_cons_unit_lit', View.readAt_eq_ld,
        Memref.IsWhole.read_unread]
    rfl
  rw [hG]
  clear hG hV
  funext y
  canon_tiles x h
  all_goals
    refine piece_eq V ?_ ?_ ?_ ?_ ?_ ?_ x y h3 h4 ?_ ?_ ?_ ?_ ?_ <;> first | omega | rfl | decide +kernel

end Cert.HyenaInIdeal.Value
-- ==== Proof.InSpec.lean ====
/- The entry of the convolution layer as plain functions of coordinates: normalisation, projection, short convolution, gate. -/
module

public import proofs.«01_k».proof.Pre_finite_in
public import proofs.«01_k».proof.Proof.Gen.Pre_finite_in
public import proofs.«01_k».proof.Proof.Finite

@[expose] public section

noncomputable section

namespace Cert.Layer

open Idealize.ShloMosaic

/-- A sequence with a zero before it and after it: position `p` is token `p - 1`. -/
def padded (z : Fin 16384 → EReal) (p : Nat) : EReal := if h : 1 ≤ p ∧ p ≤ 16384 then z ⟨p - 1, by omega⟩ else 0

/-- The short convolution of a sequence at token `t`: three taps and an offset. -/
def short (c0 c1 c2 cb : EReal) (z : Fin 16384 → EReal) (t : Fin 16384) : EReal :=
  c0 * padded z t.val + c1 * padded z (t.val + 1) + c2 * padded z (t.val + 2) + cb

/-- The arrays the entry of the convolution layer takes, as functions of their coordinates. -/
structure InArgs where
  /-- The rows that enter the layer. -/
  x : Fin 2 → Fin 16384 → Fin 1024 → EReal
  /-- The gain of the normalisation. -/
  g : Fin 1024 → EReal
  /-- The projection. -/
  w : Fin 1024 → Fin 3072 → EReal
  /-- Its offset. -/
  b : Fin 3072 → EReal
  /-- The short filter: tap, column. -/
  cw : Fin 3 → Fin 3072 → EReal
  /-- Its offset. -/
  cb : Fin 3072 → EReal

/-- Column `n` of sequence `b`'s projection, token by token. -/
def InArgs.z (A : InArgs) (b : Fin 2) (n : Fin 3072) (t : Fin 16384) : EReal := proj (A.x b t) A.g A.w A.b n

/-- Column `n` of sequence `b` after the short convolution. -/
def InArgs.u (A : InArgs) (b : Fin 2) (t : Fin 16384) (n : Fin 3072) : EReal :=
  short (A.cw 0 n) (A.cw 1 n) (A.cw 2 n) (A.cb n) (A.z b n) t

/-- The gated sequence: the last third of the columns times the middle third. -/
def InArgs.first (A : InArgs) (b : Fin 2) (t : Fin 16384) (n : Fin 1024) : EReal :=
  A.u b t ⟨2048 + n.val, by omega⟩ * A.u b t ⟨1024 + n.val, by omega⟩

/-- The second gate: the first third of the columns. -/
def InArgs.second (A : InArgs) (b : Fin 2) (t : Fin 16384) (n : Fin 1024) : EReal := A.u b t ⟨n.val, by omega⟩

/-- The projection's offset and the short filter hold real numbers. -/
structure InArgs.Real (A : InArgs) : Prop where
  b : ∀ n, IsReal (A.b n)
  cw : ∀ j n, IsReal (A.cw j n)

/-- A real factor spreads over a sum with a real number in it. -/
theorem mul_add_real (c b : ℝ) (z : EReal) : (c : EReal) * (z + b) = c * z + ((c * b : ℝ) : EReal) := by
  induction z using EReal.rec with
  | coe z =>
    simp only [← EReal.coe_mul, ← EReal.coe_add]
    congr 1
    ring
  | bot =>
    rw [EReal.bot_add]
    rcases lt_trichotomy c 0 with h | rfl | h
    · rw [EReal.coe_mul_bot_of_neg h, EReal.top_add_coe]
    · simp
    · rw [EReal.coe_mul_bot_of_pos h, EReal.bot_add]
  | top =>
    rw [EReal.top_add_coe]
    rcases lt_trichotomy c 0 with h | rfl | h
    · rw [EReal.coe_mul_top_of_neg h, EReal.bot_add]
    · simp
    · rw [EReal.coe_mul_top_of_pos h, EReal.top_add_coe]

/-- The offset taken out of the three taps goes back into them, where it and the taps are real. -/
theorem taps_eq {c0 c1 c2 b : EReal} (z0 z1 z2 cb : EReal) (h0 : IsReal c0) (h1 : IsReal c1) (h2 : IsReal c2) (hb : IsReal b) :
    c0 * z0 + c1 * z1 + c2 * z2 + (cb + b * (c0 + c1 + c2)) = c0 * (z0 + b) + c1 * (z1 + b) + c2 * (z2 + b) + cb := by
  obtain ⟨c0, rfl⟩ := h0
  obtain ⟨c1, rfl⟩ := h1
  obtain ⟨c2, rfl⟩ := h2
  obtain ⟨b, rfl⟩ := hb
  have e : (b : EReal) * (c0 + c1 + c2) = ((c0 * b : ℝ) : EReal) + ((c1 * b : ℝ) : EReal) + ((c2 * b : ℝ) : EReal) := by
    simp only [← EReal.coe_mul, ← EReal.coe_add]
    congr 1
    ring
  rw [e, mul_add_real, mul_add_real, mul_add_real]
  abel

/-- A real number taken away from nothing and put back. -/
theorem neg_add {b : EReal} (hb : IsReal b) : 0 - b + b = 0 := by
  obtain ⟨b, rfl⟩ := hb
  rw [← EReal.coe_zero, ← EReal.coe_sub, ← EReal.coe_add]
  congr 1
  ring

section finite

open Cert.Pre_finite_in

attribute [local instance] Cert.Pre_finite_in.Gen.facts

/-- An array that passes `jnp.all(abs(a) < inf)` holds real numbers. -/
theorem all_real_in {s : Shape} {axes : List (Fin s.rank)} (x : FVec Ideal s .f32) (hb : S_.BroadcastsInDim s (![] : Fin 0 → Fin s.rank))
    (hr : s.ReducesTo axes S_) (j : S_.Idx)
    (e : Host.reduce IntOp.andi (cmpf .olt (Host.absf (F := Ideal) x) (broadcastInDim s ![] hb (constant S_ .f32 0x7F800000#32))) (constantI S_ 1 1#1) hr Cert.Pre_finite_in.Gen.h_S_ j = 1#1)
    (i : s.Idx) : IsReal (x i) :=
  haveI : Subsingleton S_.Idx := ⟨fun a b => funext fun i => i.elim0⟩
  isReal_of_cmp _ (Host.reduce_andi_all _ _ _ _ j e i)

/-- The precondition, array by array. -/
theorem finite_in_real (a0 : FVec Ideal S2x16384x1024 .f32) (a1 : FVec Ideal S1024 .f32) (a2 : FVec Ideal S1024x3072 .f32) (a3 : FVec Ideal S3072 .f32)
    (a4 : FVec Ideal S3x3072 .f32) (a5 : FVec Ideal S3072 .f32) (h : fn (F := Ideal) a0 a1 a2 a3 a4 a5 = fun _ => 1#1) :
    (∀ i, IsReal (a3 i)) ∧ (∀ i, IsReal (a4 i)) := by
  have h := congrFun h (fun i => i.elim0)
  obtain ⟨h3, h4⟩ := IntOp.andi_eq_one.1 h
  exact ⟨all_real_in a3 Cert.Pre_finite_in.Gen.bcast_S_S3072 Cert.Pre_finite_in.Gen.reducesTo_S3072_S_d0 (fun i => i.elim0) h3,
    all_real_in a4 Cert.Pre_finite_in.Gen.bcast_S_S3x3072 Cert.Pre_finite_in.Gen.reducesTo_S3x3072_S_d0_1 (fun i => i.elim0) h4⟩

end finite

end Cert.Layer

end
-- ==== Proof.InKernel.lean ====
/- The entry of the convolution layer, grid point by grid point, and the arrays it returns. -/
module

public import proofs.«01_k».proof.Proof.InStore
public import proofs.«01_k».proof.Proof.InSpec
public import Idealize.ShloMosaic.Lib.StableHlo.ReadAt

@[expose] public section

set_option maxRecDepth 16384

noncomputable section

namespace Cert.HyenaInIdeal.Value

open Idealize.ShloMosaic Idealize.ShloMosaic.TcCoe Idealize.SL.Sem
open Idealize.ShloMosaic.Pipeline (Dat)
open Cert.HyenaInIdeal Cert.HyenaInIdeal.Gen Cert.Layer

variable (m : (ℓ : Loc nD τ sig) → Buf (Elt Ideal) ℓ)

/-- The index maps of the region: point `t` is the block of rows `t % 32` of sequence `t / 32`, with the eight rows before
    it and the eight after it; every weight whole. -/
theorem idx0 : ∀ t : Fin grid0.N, win0_0.index t = ![t.val / 32, t.val % 32 * 64 - 1, 0] ∧ win0_1.index t = ![t.val / 32, t.val % 32, 0]
    ∧ win0_2.index t = ![t.val / 32, min ((t.val % 32 + 1) * 64) 2047, 0] ∧ win0_3.index t = ![0, 0] ∧ win0_4.index t = ![0, 0]
    ∧ win0_5.index t = ![0, 0] ∧ win0_6.index t = ![0, 0] ∧ win0_7.index t = ![0, 0]
    ∧ win0_8.index t = ![t.val / 32, 0, 0, t.val % 32, 0] ∧ win0_9.index t = ![t.val / 32, t.val % 32, 0]
    ∧ (grid0.coords t 1).val = t.val % 32 := by
  decide +kernel

/-- The arguments as functions of their coordinates. -/
def kargs (c : Dev nD) : InArgs where
  x b t k := m ((c : Thread nD τ).loc main_arg0) (ix3 b t k)
  g k := m ((c : Thread nD τ).loc main_arg1) (ix1 k)
  w k n := m ((c : Thread nD τ).loc main_arg2) (ix2 k n)
  b n := m ((c : Thread nD τ).loc main_arg3) (ix1 n)
  cw j n := m ((c : Thread nD τ).loc main_arg4) (ix2 j n)
  cb n := m ((c : Thread nD τ).loc main_arg5) (ix1 n)

theorem v0_at (c : Dev nD) (n : Fin 1024) : V m c main_v0 (ix2 0 n) = m ((c : Thread nD τ).loc main_arg1) (ix1 n) := by
  unfold V
  after_reads_at

theorem v1_at (c : Dev nD) (k : Fin 1024) (n : Fin 3072) : V m c main_v1 (ix2 k n) = m ((c : Thread nD τ).loc main_arg2) (ix2 k n) := by
  unfold V
  after_reads_at

theorem v2_at (c : Dev nD) (n : Fin 3072) : V m c main_v2 (ix2 0 n) = m ((c : Thread nD τ).loc main_arg3) (ix1 n) := by
  unfold V
  after_reads_at

theorem v3_at (c : Dev nD) (n : Fin 3072) : V m c main_v3 (ix2 0 n) = m ((c : Thread nD τ).loc main_arg5) (ix1 n) := by
  unfold V
  after_reads_at

/-- The gain's block. -/
theorem g_blk (c : Dev nD) (t : Fin cfg0.N) (k : Fin 1024) : iblk m c 3 t (ix2 0 k) = (kargs m c).g k := by
  obtain ⟨-, -, -, e, -⟩ := idx0 t
  exact Eq.trans (by blk_ext [iblk, e]) (v0_at m c k)

/-- The projection's block. -/
theorem w_blk (c : Dev nD) (t : Fin cfg0.N) (k : Fin 1024) (n : Fin 3072) : iblk m c 4 t (ix2 k n) = (kargs m c).w k n := by
  obtain ⟨-, -, -, -, e, -⟩ := idx0 t
  exact Eq.trans (by blk_ext [iblk, e]) (v1_at m c k n)

/-- Its offset's block. -/
theorem b_blk (c : Dev nD) (t : Fin cfg0.N) (n : Fin 3072) : iblk m c 5 t (ix2 0 n) = (kargs m c).b n := by
  obtain ⟨-, -, -, -, -, e, -⟩ := idx0 t
  exact Eq.trans (by blk_ext [iblk, e]) (v2_at m c n)

/-- The short filter's block. -/
theorem cw_blk (c : Dev nD) (t : Fin cfg0.N) (j : Fin 3) (n : Fin 3072) : iblk m c 6 t (ix2 j n) = (kargs m c).cw j n := by
  obtain ⟨-, -, -, -, -, -, e, -⟩ := idx0 t
  exact Eq.trans (b := V m c main_arg4 (ix2 j n)) (by blk_ext [iblk, e]) (congrFun (V_main_arg4 m c) _)

/-- Its offset's block. -/
theorem cb_blk (c : Dev nD) (t : Fin cfg0.N) (n : Fin 3072) : iblk m c 7 t (ix2 0 n) = (kargs m c).cb n := by
  obtain ⟨-, -, -, -, -, -, -, e, -⟩ := idx0 t
  exact Eq.trans (by blk_ext [iblk, e]) (v3_at m c n)

/-- Wide row `p` of point `t` is token `512 (t % 32) + p - 8` of sequence `t / 32`, where there is one. -/
theorem wide_blk (c : Dev nD) (t : Fin cfg0.N) (p : Fin 528) (b : Fin 2) (T : Fin 16384) (hb : b.val = t.val / 32)
    (hT : T.val + 8 = t.val % 32 * 512 + p.val) (k : Fin 1024) :
    wide (iblk m c 0 t) (iblk m c 1 t) (iblk m c 2 t) p k = (kargs m c).x b T k := by
  obtain ⟨e0, e1, e2, -⟩ := idx0 t
  refine Eq.trans (b := V m c main_arg0 (ix3 b T k)) ?_ (congrFun (V_main_arg0 m c) _)
  have hl := T.isLt
  unfold wide
  by_cases h1 : p.val < 8
  · rw [dif_pos h1]
    have q : T.val = (t.val % 32 * 64 - 1) * 8 + p.val := by omega
    blk_ext [iblk, e0, hb, q]
  · rw [dif_neg h1]
    by_cases h2 : p.val < 520
    · rw [dif_pos h2]
      have q : T.val = t.val % 32 * 512 + (p.val - 8) := by omega
      blk_ext [iblk, e1, hb, q]
    · rw [dif_neg h2]
      have q : T.val = min ((t.val % 32 + 1) * 64) 2047 * 8 + (p.val - 520) := by omega
      blk_ext [iblk, e2, hb, q]

/-- The projected wide row with its offset is the padded projection. -/
theorem zrow_blk (c : Dev nD) (h : (kargs m c).Real) (t : Fin cfg0.N) (p : Fin 528) (n : Fin 3072) (b : Fin 2) (P : Nat)
    (hb : b.val = t.val / 32) (hP : P + 7 = t.val % 32 * 512 + p.val) :
    zrow (iblk m c 0 t) (iblk m c 1 t) (iblk m c 2 t) (iblk m c 3 t) (iblk m c 4 t) (iblk m c 5 t) (grid0.coords t) p n + (kargs m c).b n
      = padded ((kargs m c).z b n) P := by
  have e : (grid0.coords t 1).val = t.val % 32 := (idx0 t).2.2.2.2.2.2.2.2.2.2
  have hp := p.isLt
  unfold zrow padded
  rw [e, b_blk]
  by_cases hin : 1 ≤ P ∧ P ≤ 16384
  · rw [dif_pos hin, if_pos ⟨by omega, by omega⟩]
    have hw : ∀ k, wide (iblk m c 0 t) (iblk m c 1 t) (iblk m c 2 t) p k = (kargs m c).x b ⟨P - 1, by omega⟩ k :=
      fun k => wide_blk m c t p b ⟨P - 1, by omega⟩ hb (by show P - 1 + 8 = _; omega) k
    have hs : (∑ k, rms (wide (iblk m c 0 t) (iblk m c 1 t) (iblk m c 2 t) p) (fun k => iblk m c 3 t (ix2 0 k)) k
          * (show EReal from iblk m c 4 t (ix2 k n)))
        = ∑ k, rms ((kargs m c).x b ⟨P - 1, by omega⟩) (kargs m c).g k * (kargs m c).w k n :=
      Finset.sum_congr rfl fun k _ => by
        rw [show wide (iblk m c 0 t) (iblk m c 1 t) (iblk m c 2 t) p = _ from funext hw,
          show (fun k => iblk m c 3 t (ix2 0 k)) = (kargs m c).g from funext fun k => g_blk m c t k]
        exact congrArg (fun a : EReal => rms ((kargs m c).x b ⟨P - 1, by omega⟩) (kargs m c).g k * a) (w_blk m c t k n)
    exact congrArg (fun a : EReal => a + (kargs m c).b n) hs
  · rw [dif_neg hin, if_neg (by omega)]
    exact neg_add (h.b n)

/-- The convolved block of point `t`, row `r`, is token `512 (t % 32) + r` of sequence `t / 32`. -/
theorem conv_blk (c : Dev nD) (h : (kargs m c).Real) (t : Fin cfg0.N) (r : Fin 512) (n : Fin 3072) (b : Fin 2) (T : Fin 16384)
    (hb : b.val = t.val / 32) (hT : T.val = t.val % 32 * 512 + r.val) :
    conv (iblk m c 0 t) (iblk m c 1 t) (iblk m c 2 t) (iblk m c 3 t) (iblk m c 4 t) (iblk m c 5 t) (iblk m c 6 t) (iblk m c 7 t)
      (grid0.coords t) r n = (kargs m c).u b T n := by
  have p0 := zrow_blk m c h t ⟨r.val + 7, by omega⟩ n b T.val hb (by show T.val + 7 = t.val % 32 * 512 + (r.val + 7); omega)
  have p1 := zrow_blk m c h t ⟨r.val + 8, by omega⟩ n b (T.val + 1) hb (by show T.val + 1 + 7 = t.val % 32 * 512 + (r.val + 8); omega)
  have p2 := zrow_blk m c h t ⟨r.val + 9, by omega⟩ n b (T.val + 2) hb (by show T.val + 2 + 7 = t.val % 32 * 512 + (r.val + 9); omega)
  unfold conv taps
  rw [cw_blk, cw_blk, cw_blk, cb_blk, b_blk, taps_eq _ _ _ _ (h.cw 0 n) (h.cw 1 n) (h.cw 2 n) (h.b n), p0, p1, p2]
  rfl

/-- The second result array after the region. -/
theorem second_final (c : Dev nD) (h : (kargs m c).Real) : (dats m 0 c).arrAt 9 cfg0.N
    = fun i : S2x16384x1024.Idx => (kargs m c).second ⟨(i 0).val, (i 0).isLt⟩ ⟨(i 1).val, (i 1).isLt⟩ ⟨(i 2).val, (i 2).isLt⟩ := by
  refine (dats m 0 c).arrAt_eq_of_covers 9 _ (by decide +kernel) fun t hf y => ?_
  blk_simp; rw [after9]
  idx_vars y
  have e : win0_9.index t = _ := (idx0 t).2.2.2.2.2.2.2.2.2.1
  have z : y0 = 0 := Subsingleton.elim _ _
  subst z
  rw [gate0_at _ _ _ _ _ _ _ _ _ y1 y2 ⟨y2.val, by omega⟩ rfl]
  unfold InArgs.second
  exact (conv_blk m c h t y1 _ _ _ (by simp [e]) (by simp [e])).trans (congrArg ((kargs m c).u _ _) (Fin.ext (by simp [e])))

/-- The first result array after the region: tokens regrouped. -/
theorem first_final (c : Dev nD) (h : (kargs m c).Real) : (dats m 0 c).arrAt 8 cfg0.N
    = fun i : S2x8x16x1024x128.Idx => (kargs m c).first ⟨(i 0).val, (i 0).isLt⟩
        ⟨(i 3).val / 8 * 128 + (i 2).val * 8 + (i 3).val % 8, by have h2 : (i 2).val < 16 := (i 2).isLt; have h3 : (i 3).val < 1024 := (i 3).isLt; omega⟩
        ⟨(i 1).val * 128 + (i 4).val, by have h1 : (i 1).val < 8 := (i 1).isLt; have h4 : (i 4).val < 128 := (i 4).isLt; omega⟩ := by
  refine (dats m 0 c).arrAt_eq_of_covers 8 _ (by decide +kernel) fun t hf y => ?_
  blk_simp; rw [after8]
  have e : win0_8.index t = _ := (idx0 t).2.2.2.2.2.2.2.2.1
  idx_vars y
  unfold grouped InArgs.first
  refine (gateV_at _ _ _ _ _ _ _ _ _ ⟨y2.val * 8 + y3.val / 8 * 128 + y3.val % 8, by omega⟩ ⟨y1.val * 128 + y4.val, by omega⟩
    ⟨2048 + (y1.val * 128 + y4.val), by omega⟩ ⟨1024 + (y1.val * 128 + y4.val), by omega⟩ rfl rfl).trans ?_
  have q : (t.val % 32 * 32 + y3.val) / 8 * 128 + y2.val * 8 + (t.val % 32 * 32 + y3.val) % 8
      = t.val % 32 * 512 + (y2.val * 8 + y3.val / 8 * 128 + y3.val % 8) := by omega
  refine congrArg₂ (fun a b : EReal => a * b) ?_ ?_
  · exact (conv_blk m c h t _ _ _ _ (by simp [e]) (by simp [e, q])).trans (congrArg ((kargs m c).u _ _) (Fin.ext (by simp [e])))
  · exact (conv_blk m c h t _ _ _ _ (by simp [e]) (by simp [e, q])).trans (congrArg ((kargs m c).u _ _) (Fin.ext (by simp [e])))

end Cert.HyenaInIdeal.Value

end
-- ==== Proof.InRun.lean ====
/- What the entry of the convolution layer returns: the arrays after the region, regrouped by the host. -/
module

public import proofs.«01_k».proof.Proof.InKernel

@[expose] public section

set_option maxRecDepth 16384

noncomputable section

namespace Cert.HyenaInIdeal.Value

open Idealize.ShloMosaic Idealize.ShloMosaic.TcCoe Idealize.SL.Sem
open Cert.HyenaInIdeal Cert.HyenaInIdeal.Gen Cert.Layer

variable (m : (ℓ : Loc nD τ sig) → Buf (Elt Ideal) ℓ) (ρ : Dev nD → PrngReg)

/-- The buffers of core `c` when the region is over. -/
def exits (c : Dev nD) : Valuation τ sig (Elt Ideal) :=
  Pipeline.withArrays (cfgs 0).spec c (V0 m c) fun w => (dats m 0 c).arrAt w (cfgs 0).N

/-- The first result's buffer then: its array. -/
theorem exits_first (c : Dev nD) : exits m c (Proc.devRef .tc main_v4_0) = (dats m 0 c).arrAt 8 cfg0.N :=
  (dats m 0 c).withArrays_arrAt sharedIn0 (V0 m c) (A_eq m c) 8

/-- The second result's buffer then: its array. -/
theorem exits_second (c : Dev nD) : exits m c (Proc.devRef .tc main_v4_1) = (dats m 0 c).arrAt 9 cfg0.N :=
  (dats m 0 c).withArrays_arrAt sharedIn0 (V0 m c) (A_eq m c) 9

/-- The first result. -/
def out0 (c : Dev nD) : Buf (Elt Ideal) ((c.tc : Thread nD τ).loc main_v7) := Pipeline.afterTail₀ cfgs (dats m) 0 (V0 m) [hostOps1] c main_v7

/-- The second result. -/
def out1 (c : Dev nD) : Buf (Elt Ideal) ((c.tc : Thread nD τ).loc main_v8) := Pipeline.afterTail₀ cfgs (dats m) 0 (V0 m) [hostOps1] c main_v8

/-- The second result at a token and a channel. -/
theorem out1_at (c : Dev nD) (h : (kargs m c).Real) (b : Fin 2) (T : Fin 16384) (n : Fin 1024) :
    out1 m c (ix3 b T n) = (kargs m c).second b T n := by
  have q : exits m c (Proc.devRef .tc main_v4_1) (ix3 b T n) = (kargs m c).second b T n :=
    (congrFun ((exits_second m c).trans (second_final m c h)) (ix3 b T n))
  refine Eq.trans ?_ q
  show StableHlo.after ([hostOps1] : List _).flatten (exits m c) (Proc.devRef .tc main_v8) (ix3 b T n) = _
  generalize exits m c = W
  after_reads_at

/-- The first result at a token and a channel. -/
theorem out0_at (c : Dev nD) (h : (kargs m c).Real) (b : Fin 2) (T : Fin 16384) (n : Fin 1024) :
    out0 m c (ix3 b T n) = (kargs m c).first b T n := by
  have q : exits m c (Proc.devRef .tc main_v4_0) (ix5 b ⟨n.val / 128, by omega⟩ ⟨T.val / 8 % 16, by omega⟩
      ⟨T.val / 128 * 8 + T.val % 8, by omega⟩ ⟨n.val % 128, by omega⟩) = (kargs m c).first b T n := by
    refine (congrFun ((exits_first m c).trans (first_final m c h)) _).trans ?_
    exact congrArg₂ ((kargs m c).first b)
      (Fin.ext (by show (T.val / 128 * 8 + T.val % 8) / 8 * 128 + T.val / 8 % 16 * 8 + (T.val / 128 * 8 + T.val % 8) % 8 = T.val; omega))
      (Fin.ext (by show n.val / 128 * 128 + n.val % 128 = n.val; omega))
  refine Eq.trans ?_ q
  show StableHlo.after ([hostOps1] : List _).flatten (exits m c) (Proc.devRef .tc main_v7) (ix3 b T n) = _
  generalize exits m c = W
  after_reads_at

/-- The run: each result as named, the arguments unchanged. -/
theorem run : θ_run defs (onTc (τ := τ) (main (F := Ideal))) ⟨m, fun _ => 0, ρ⟩ fun r => ∀ c : Dev nD,
      r.2.mem ((c.tc : Thread nD τ).loc main_v7) = out0 m c
      ∧ r.2.mem ((c.tc : Thread nD τ).loc main_v8) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h.1 c).2 main_v7 (Pipeline.mem_restRefs_of main_v7 (by decide) (by decide)),
        (h.1 c).2 main_v8 (Pipeline.mem_restRefs_of main_v8 (by decide) (by decide)), h.2 c⟩)
    (θ_run_and (run_main m ρ) (unchanged m ρ))

end Cert.HyenaInIdeal.Value

end
-- ==== Proof.InRef.lean ====
/- The reference of the convolution layer's entry, at an index. -/
module

public import proofs.«01_k».proof.Proof.Gen.HyenaInReferenceIdeal.Run
public import proofs.«01_k».proof.Proof.InSpec
public import Idealize.ShloMosaic.Lib.Pointwise

@[expose] public section

set_option maxRecDepth 16384

noncomputable section

namespace Cert.HyenaInReferenceIdeal.Value

open Idealize.ShloMosaic Idealize.ShloMosaic.TcCoe Idealize.SL.Sem
open Cert.HyenaInReferenceIdeal Cert.HyenaInReferenceIdeal.Gen Cert.Layer

/-- The normalisation of an array's rows. -/
def normT (y : FVec Ideal S2x16384x1024 .f32) (g : FVec Ideal S1024 .f32) : FVec Ideal S2x16384x1024 .f32 :=
  mulf (mulf y (broadcastInDim S2x16384x1024 ![0, 1, 2] bcast_S2x16384x1_S2x16384x1024_0_1_2 (Host.rsqrt (F := Ideal)
    (addf (Host.divf (broadcastInDim S2x16384x1 ![0, 1] bcast_S2x16384_S2x16384x1_0_1
        (Host.reduceAdd (mulf y y) (constant S_ .f32 0x00000000#32) reducesTo_S2x16384x1024_S2x16384_d2 h_S_))
      (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- A row of 3072 numbers at every token. -/
def everyT (v : FVec Ideal S3072 .f32) : FVec Ideal S2x16384x3072 .f32 :=
  broadcastInDim S2x16384x3072 ![0, 1, 2] bcast_S1x1x3072_S2x16384x3072_0_1_2 (broadcastInDim S1x1x3072 ![2] bcast_S3072_S1x1x3072_2 v)

/-- The projected rows. -/
def projT (h : FVec Ideal S2x16384x1024 .f32) (w : FVec Ideal S1024x3072 .f32) (b : FVec Ideal S3072 .f32) : FVec Ideal S2x16384x3072 .f32 :=
  addf (Host.dotGeneral (F := Ideal) dot_S2x16384x1024_S1024x3072_S2x16384x3072_2_0_01_1_n_n none h w) (everyT b)

/-- The projected rows with a row of zeros before and after each sequence. -/
def padT (z : FVec Ideal S2x16384x3072 .f32) : FVec Ideal S2x16386x3072 .f32 :=
  pad S2x16386x3072 ![0, 1, 0] ![0, 1, 0] ![0, 0, 0] z (sitofp .f32 (constantI S_ 32 0#32)) pads_S2x16384x3072_S2x16386x3072_000_110_000 h_S_

/-- The short convolution of the padded rows. -/
def shortT (zp : FVec Ideal S2x16386x3072 .f32) (cw : FVec Ideal S3x3072 .f32) (cb : FVec Ideal S3072 .f32) : FVec Ideal S2x16384x3072 .f32 :=
  addf (addf (addf
    (mulf (everyT (shapeCast _ (extractStridedSlice S1x3072 ![0, 0] cw slices_S3x3072_S1x3072_0_0) shapeCasts_S1x3072_S3072))
      (extractStridedSlice S2x16384x3072 ![0, 0, 0] zp slices_S2x16386x3072_S2x16384x3072_0_0_0))
    (mulf (everyT (shapeCast _ (extractStridedSlice S1x3072 ![1, 0] cw slices_S3x3072_S1x3072_1_0) shapeCasts_S1x3072_S3072))
      (extractStridedSlice S2x16384x3072 ![0, 1, 0] zp slices_S2x16386x3072_S2x16384x3072_0_1_0)))
    (mulf (everyT (shapeCast _ (extractStridedSlice S1x3072 ![2, 0] cw slices_S3x3072_S1x3072_2_0) shapeCasts_S1x3072_S3072))
      (extractStridedSlice S2x16384x3072 ![0, 2, 0] zp slices_S2x16386x3072_S2x16384x3072_0_2_0)))
    (everyT cb)

theorem normT_at (y : FVec Ideal S2x16384x1024 .f32) (g : FVec Ideal S1024 .f32) (b : Fin 2) (t : Fin 16384) (n : Fin 1024) :
    normT y g (ix3 b t n) = rms (fun k => y (ix3 b t k)) (fun k => g (ix1 k)) n := by
  unfold rms normT
  pointwise

theorem everyT_at (v : FVec Ideal S3072 .f32) (b : Fin 2) (t : Fin 16384) (n : Fin 3072) : everyT v (ix3 b t n) = v (ix1 n) := by
  pointwise [everyT]

theorem projT_at (h : FVec Ideal S2x16384x1024 .f32) (w : FVec Ideal S1024x3072 .f32) (v : FVec Ideal S3072 .f32)
    (b : Fin 2) (t : Fin 16384) (n : Fin 3072) : projT h w v (ix3 b t n) = (∑ k, h (ix3 b t k) * w (ix2 k n)) + v (ix1 n) := by
  unfold projT
  pointwise
  rw [everyT_at]

theorem padT_at (z : FVec Ideal S2x16384x3072 .f32) (b : Fin 2) (p : Fin 16386) (n : Fin 3072) :
    padT z (ix3 b p n) = padded (fun t => z (ix3 b t n)) p.val := by
  unfold padT padded
  pointwise
  have z0 : (FloatOps.sitofp (F := Ideal) .f32 0#32 : EReal) = 0 := by
    show (((0#32 : BitVec 32).toInt : ℝ) : EReal) = 0
    simp
  by_cases h : 1 ≤ p.val ∧ p.val ≤ 16384
  · rw [dif_pos h, dif_pos ⟨h.1, by omega⟩]
  · rw [dif_neg h, dif_neg (by omega)]
    exact z0

theorem shortT_at (zp : FVec Ideal S2x16386x3072 .f32) (cw : FVec Ideal S3x3072 .f32) (cb : FVec Ideal S3072 .f32)
    (b : Fin 2) (t : Fin 16384) (n : Fin 3072) : shortT zp cw cb (ix3 b t n)
      = cw (ix2 0 n) * zp (ix3 b ⟨t.val, by omega⟩ n) + cw (ix2 1 n) * zp (ix3 b ⟨t.val + 1, by omega⟩ n)
        + cw (ix2 2 n) * zp (ix3 b ⟨t.val + 2, by omega⟩ n) + cb (ix1 n) := by
  have h0 : shapeCast S3072 (extractStridedSlice S1x3072 ![0, 0] cw slices_S3x3072_S1x3072_0_0) shapeCasts_S1x3072_S3072 (ix1 n)
      = cw (ix2 0 n) := by pointwise
  have h1 : shapeCast S3072 (extractStridedSlice S1x3072 ![1, 0] cw slices_S3x3072_S1x3072_1_0) shapeCasts_S1x3072_S3072 (ix1 n)
      = cw (ix2 1 n) := by pointwise
  have h2 : shapeCast S3072 (extractStridedSlice S1x3072 ![2, 0] cw slices_S3x3072_S1x3072_2_0) shapeCasts_S1x3072_S3072 (ix1 n)
      = cw (ix2 2 n) := by pointwise
  unfold shortT
  pointwise
  simp only [everyT_at]
  rw [h0, h1, h2]
  simp only [Nat.add_comm]

/-- The reference's arguments as functions of coordinates. -/
def inargs (x : FVec Ideal S2x16384x1024 .f32) (g : FVec Ideal S1024 .f32) (w : FVec Ideal S1024x3072 .f32) (v : FVec Ideal S3072 .f32)
    (cw : FVec Ideal S3x3072 .f32) (cb : FVec Ideal S3072 .f32) : InArgs where
  x b t k := x (ix3 b t k)
  g k := g (ix1 k)
  w k n := w (ix2 k n)
  b n := v (ix1 n)
  cw j n := cw (ix2 j n)
  cb n := cb (ix1 n)

variable (x : FVec Ideal S2x16384x1024 .f32) (g : FVec Ideal S1024 .f32) (w : FVec Ideal S1024x3072 .f32) (v : FVec Ideal S3072 .f32)
    (cw : FVec Ideal S3x3072 .f32) (cb : FVec Ideal S3072 .f32)

/-- The rows after the short convolution. -/
def colsT : FVec Ideal S2x16384x3072 .f32 := shortT (padT (projT (normT x g) w v)) cw cb

theorem colsT_at (b : Fin 2) (t : Fin 16384) (n : Fin 3072) : colsT x g w v cw cb (ix3 b t n) = (inargs x g w v cw cb).u b t n := by
  unfold colsT
  rw [shortT_at]
  simp only [padT_at, projT_at, normT_at]
  rfl

/-- The second gate. -/
def secondT : FVec Ideal S2x16384x1024 .f32 :=
  extractStridedSlice S2x16384x1024 ![0, 0, 0] (colsT x g w v cw cb) slices_S2x16384x3072_S2x16384x1024_0_0_0

/-- The gated sequence. -/
def firstT : FVec Ideal S2x16384x1024 .f32 :=
  mulf (extractStridedSlice S2x16384x1024 ![0, 0, 2048] (colsT x g w v cw cb) slices_S2x16384x3072_S2x16384x1024_0_0_2048)
    (extractStridedSlice S2x16384x1024 ![0, 0, 1024] (colsT x g w v cw cb) slices_S2x16384x3072_S2x16384x1024_0_0_1024)

theorem secondT_at (b : Fin 2) (t : Fin 16384) (n : Fin 1024) :
    secondT x g w v cw cb (ix3 b t n) = (inargs x g w v cw cb).second b t n := by
  unfold InArgs.second
  rw [← colsT_at]
  unfold secondT
  generalize colsT x g w v cw cb = U
  pointwise

theorem firstT_at (b : Fin 2) (t : Fin 16384) (n : Fin 1024) :
    firstT x g w v cw cb (ix3 b t n) = (inargs x g w v cw cb).first b t n := by
  unfold InArgs.first
  rw [← colsT_at, ← colsT_at]
  unfold firstT
  generalize colsT x g w v cw cb = U
  pointwise

variable (m : (ℓ : Loc nD τ sig) → Buf (Elt Ideal) ℓ) (c : Dev nD)

theorem out1_eq : res_out1 m c = secondT (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := rfl

theorem out0_eq : res_out0 m c = firstT (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := rfl

end Cert.HyenaInReferenceIdeal.Value

end
-- ==== Proof.OutTiles.lean ====
/- The grouped array's block of the output projection: 512 tiles of 8 tokens by 128 channels, put back side by side. -/
module

public import proofs.«01_k».proof.Proof.Gen.ProjFfnIdeal.Frame
public import Idealize.ShloMosaic.Lib.Pointwise
public import Idealize.ShloMosaic.Lib.Pipeline.ValueKit

@[expose] public section

set_option maxRecDepth 16384

noncomputable section

namespace Cert.ProjFfnIdeal.Value

open Idealize.ShloMosaic Idealize.ShloMosaic.TcCoe Idealize.SL.Sem
open Cert.ProjFfnIdeal Cert.ProjFfnIdeal.Gen

variable {F : FTy → Type} [FloatOps F]

/-- The tile at slab `c` (of 128 channels) and place `k` (of 8 tokens) lies in the grouped block. -/
theorem tile_inb (c : Fin 8) (k : Fin 64) : ∀ a, (![0, c.val, k.val % 16, k.val / 16 * 8, 0] : Fin 5 → Nat) a + S1x1x1x8x128.size a ≤ S1x8x16x32x128.size a := by
  revert c k; decide +kernel

/-- The tile at slab `c` and place `k`. -/
def tile (y : Vec F S1x8x16x32x128 .f32) (c : Fin 8) (k : Fin 64) : FVec F S8x128 .f32 :=
  shapeCast S8x128 (View.ld y (Rect.unit (s := S1x8x16x32x128) ![0, c.val, k.val % 16, k.val / 16 * 8, 0]
    S1x1x1x8x128.size (tile_inb c k))) shapeCasts_S1x1x1x8x128_S8x128

theorem tiles_fit {α : Type} {f : Fin 64 → S8x128.Idx → α} : Shape.Concatenates
    ((List.ofFn fun k : Fin 64 => (⟨S8x128, f k⟩ : (s : Shape) × (s.Idx → α))).map (·.1)) S512x128 0 := by
  rw [List.map_ofFn]
  exact show Shape.Concatenates (List.ofFn fun _ : Fin 64 => S8x128) S512x128 0 by decide +kernel

theorem slabs_fit {α : Type} {f : Fin 8 → S512x128.Idx → α} : Shape.Concatenates
    ((List.ofFn fun k : Fin 8 => (⟨S512x128, f k⟩ : (s : Shape) × (s.Idx → α))).map (·.1)) S512x1024 1 := by
  rw [List.map_ofFn]
  exact show Shape.Concatenates (List.ofFn fun _ : Fin 8 => S512x128) S512x1024 1 by decide +kernel

/-- Slab `c` of the block: its 64 tiles one below the other. -/
def slab (y : Vec F S1x8x16x32x128 .f32) (c : Fin 8) : FVec F S512x128 .f32 :=
  concatenate S512x128 0 (List.ofFn fun k : Fin 64 => ⟨S8x128, tile y c k⟩) tiles_fit

/-- The whole block: its 8 slabs side by side. -/
def slabs (y : Vec F S1x8x16x32x128 .f32) : FVec F S512x1024 .f32 :=
  concatenate S512x1024 1 (List.ofFn fun c : Fin 8 => ⟨S512x128, slab y c⟩) slabs_fit

/-- Dropping the three leading unit axes of a tile keeps its entries. -/
theorem tile_cast (v : Vec F S1x1x1x8x128 .f32) (i : Fin 8) (l : Fin 128) :
    shapeCast S8x128 v shapeCasts_S1x1x1x8x128_S8x128 (ix2 i l) = v (ix5 0 0 0 i l) := by
  pointwise

/-- The tile read at its row `i` and lane `l`. -/
theorem tile_at (y : Vec F S1x8x16x32x128 .f32) (c : Fin 8) (k : Fin 64) (i : Fin 8) (l : Fin 128) :
    tile y c k (ix2 i l) = y (ix5 0 c ⟨k.val % 16, by omega⟩ ⟨k.val / 16 * 8 + i.val, by omega⟩ l) := by
  unfold tile
  rw [tile_cast]
  refine congrArg y (funext fun a => Fin.ext ?_)
  match a with
  | 0 => rfl
  | 1 => show c.val + 1 * 0 = c.val; omega
  | 2 => show k.val % 16 + 1 * 0 = k.val % 16; omega
  | 3 => show k.val / 16 * 8 + 1 * i.val = k.val / 16 * 8 + i.val; omega
  | 4 => show 0 + 1 * l.val = l.val; omega

/-- A slab read at row `r` and lane `l`. -/
theorem slab_at (y : Vec F S1x8x16x32x128 .f32) (c : Fin 8) (r : Fin 512) (l : Fin 128) :
    slab y c (ix2 r l) = y (ix5 0 c ⟨r.val / 8 % 16, by omega⟩ ⟨r.val / 128 * 8 + r.val % 8, by omega⟩ l) := by
  unfold slab
  rw [concatenate_ofFn_apply (t := S512x128) (s₁ := S8x128) 0 (fun k => tile y c k) tiles_fit rfl 8 rfl (ix2 r l)
    ⟨r.val / 8, by omega⟩ rfl (ix2 ⟨r.val % 8, by omega⟩ l) rfl (fun b hb => by
      match b with
      | 0 => exact absurd rfl hb
      | 1 => rfl), tile_at]
  congr 2
  exact Fin.ext (by show r.val / 8 / 16 * 8 + r.val % 8 = r.val / 128 * 8 + r.val % 8; rw [Nat.div_div_eq_div_mul])

/-- The block read at row `r` and channel `n`. -/
theorem slabs_at (y : Vec F S1x8x16x32x128 .f32) (r : Fin 512) (n : Fin 1024) :
    slabs y (ix2 r n) = y (ix5 0 ⟨n.val / 128, by omega⟩ ⟨r.val / 8 % 16, by omega⟩
      ⟨r.val / 128 * 8 + r.val % 8, by omega⟩ ⟨n.val % 128, by omega⟩) := by
  unfold slabs
  rw [concatenate_ofFn_apply (t := S512x1024) (s₁ := S512x128) 1 (fun c => slab y c) slabs_fit rfl 128 rfl (ix2 r n)
    ⟨n.val / 128, by omega⟩ rfl (ix2 r ⟨n.val % 128, by omega⟩) rfl (fun b hb => by
      match b with
      | 0 => rfl
      | 1 => exact absurd rfl hb), slab_at]

variable (x0 : Vec F S1x512x1024 .f32) (x1 : Vec F S1x8x16x32x128 .f32) (x2 : Vec F S1x512x1024 .bf16)
  (x3 : Vec F S1024x1024 .bf16) (x4 x5 : Vec F S1x1024 .f32) (x6 x7 : Vec F S1024x2816 .bf16) (x8 : Vec F S2816x1024 .bf16)

/-- What the body puts together from the grouped block is the slabs side by side. -/
theorem pay474_eq : k0_pay474 x0 x1 x2 x3 x4 x5 x6 x7 x8 = slabs x1 := by
  with_unfolding_all rfl

end Cert.ProjFfnIdeal.Value

end
-- ==== Proof.OutKernel.lean ====
/- The output projection after the long convolution: gate, projection, residual and the feed-forward part, row by row. -/
module

public import proofs.«01_k».proof.Proof.Gen.ProjFfnIdeal.Value
public import proofs.«01_k».proof.Proof.OutTiles
public import proofs.«01_k».proof.Proof.Spec
public import Idealize.ShloMosaic.Lib.StableHlo.ReadAt

@[expose] public section

set_option maxRecDepth 16384

noncomputable section

namespace Cert.ProjFfnIdeal.Value

open Idealize.ShloMosaic Idealize.ShloMosaic.TcCoe Idealize.SL.Sem
open Idealize.ShloMosaic.Pipeline (Dat)
open Cert.ProjFfnIdeal Cert.ProjFfnIdeal.Gen Cert.Layer

variable (m : (ℓ : Loc nD τ sig) → Buf (Elt Ideal) ℓ)

/-- The residual block at row `r`, column `n`: the mixed row is the convolved row times its gate. -/
theorem resid_at (y : FVec Ideal S512x1024 .f32) (x0 : FVec Ideal S512x1024 .bf16) (x : Vec Ideal S1x512x1024 .f32)
    (wo : Vec Ideal S1024x1024 .bf16) (bo : Vec Ideal S1x1024 .f32) (r : Fin 512) (n : Fin 1024) :
    k0_pay472 y x0 x wo bo (ix2 r n)
      = resid (fun k => x (ix3 0 r k)) (fun k => y (ix2 r k) * x0 (ix2 r k)) (fun k n => wo (ix2 k n))
          (fun n => bo (ix2 0 n)) n := by
  pointwise [k0_pay472, resid]
  rw [add_assoc]

/-- The gated hidden block at row `r`, channel `f`. -/
theorem hidden_at (y : FVec Ideal S512x1024 .f32) (x0 : FVec Ideal S512x1024 .bf16) (x : Vec Ideal S1x512x1024 .f32)
    (wo : Vec Ideal S1024x1024 .bf16) (bo g : Vec Ideal S1x1024 .f32) (wg wu : Vec Ideal S1024x2816 .bf16)
    (r : Fin 512) (f : Fin 2816) :
    k0_pay473 y x0 x wo bo g wg wu (ix2 r f)
      = gated (resid (fun k => x (ix3 0 r k)) (fun k => y (ix2 r k) * x0 (ix2 r k)) (fun k n => wo (ix2 k n)) (fun n => bo (ix2 0 n)))
          (fun k => g (ix2 0 k)) (fun k f => wg (ix2 k f)) (fun k f => wu (ix2 k f)) f := by
  pointwise [k0_pay473, gated, rms]
  simp only [resid_at, Ideal.logistic]

/-- The whole block at row `r`, column `n`. -/
theorem block_at (y : FVec Ideal S512x1024 .f32) (x0 : Vec Ideal S1x512x1024 .bf16) (x : Vec Ideal S1x512x1024 .f32)
    (wo : Vec Ideal S1024x1024 .bf16) (bo g : Vec Ideal S1x1024 .f32) (wg wu : Vec Ideal S1024x2816 .bf16)
    (wd : Vec Ideal S2816x1024 .bf16) (r : Fin 512) (n : Fin 1024) :
    k0_pay1 (k0_pay472 y (k0_pay471 x0) x wo bo) (k0_pay473 y (k0_pay471 x0) x wo bo g wg wu) wd (ix3 0 r n)
      = ffn (resid (fun k => x (ix3 0 r k)) (fun k => y (ix2 r k) * x0 (ix3 0 r k)) (fun k n => wo (ix2 k n)) (fun n => bo (ix2 0 n)))
          (fun k => g (ix2 0 k)) (fun k f => wg (ix2 k f)) (fun k f => wu (ix2 k f)) (fun f n => wd (ix2 f n)) n := by
  have h : ∀ r k, k0_pay471 x0 (ix2 r k) = x0 (ix3 0 r k) := fun r k => by pointwise [k0_pay471]
  pointwise [k0_pay1, ffn]
  simp only [resid_at, hidden_at, h]

/-- The index maps of the region: point `t` is the block of rows `t % 32` of sequence `t / 32`; every weight whole. -/
theorem idx0 : ∀ t : Fin grid0.N, win0_0.index t = ![t.val / 32, t.val % 32, 0] ∧ win0_1.index t = ![t.val / 32, 0, 0, t.val % 32, 0]
    ∧ win0_2.index t = ![t.val / 32, t.val % 32, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![t.val / 32, t.val % 32, 0] := by
  decide +kernel

/-- Row `T` of sequence `b` of the result, from the arrays the region finds. -/
def outrow (c : Dev nD) (b : Fin 2) (T : Fin 16384) (n : Fin 1024) : EReal :=
  ffn (resid (fun k => V m c main_arg0 (ix3 b T k))
      (fun k => HMul.hMul (α := EReal) (β := EReal) (V m c main_v2 (ix5 b ⟨k.val / 128, by omega⟩ ⟨T.val / 8 % 16, by omega⟩
          ⟨T.val / 128 * 8 + T.val % 8, by omega⟩ ⟨k.val % 128, by omega⟩)) (V m c main_v3 (ix3 b T k)))
      (fun k n => V m c main_v4 (ix2 k n)) (fun n => V m c main_v5 (ix2 0 n)))
    (fun k => V m c main_v6 (ix2 0 k)) (fun k f => V m c main_v7 (ix2 k f)) (fun k f => V m c main_v8 (ix2 k f))
    (fun f n => V m c main_v9 (ix2 f n)) n

set_option maxHeartbeats 1000000 in
/-- The kernel's block at point `t`, row `r` of the block, is row `512 (t % 32) + r` of sequence `t / 32`. -/
theorem out_blk (c : Dev nD) (t : Fin cfg0.N) (r : Fin 512) (n : Fin 1024) (b : Fin 2) (T : Fin 16384)
    (hb : b.val = t.val / 32) (hT : T.val = t.val % 32 * 512 + r.val) :
    k0_pay1 (k0_pay472 (slabs (iblk m c 1 t)) (k0_pay471 (iblk m c 2 t)) (iblk m c 0 t) (iblk m c 3 t) (iblk m c 4 t))
      (k0_pay473 (slabs (iblk m c 1 t)) (k0_pay471 (iblk m c 2 t)) (iblk m c 0 t) (iblk m c 3 t) (iblk m c 4 t)
        (iblk m c 5 t) (iblk m c 6 t) (iblk m c 7 t)) (iblk m c 8 t) (ix3 0 r n) = outrow m c b T n := by
  obtain ⟨e0, e1, e2, e3, e4, e5, e6, e7, e8, -⟩ := idx0 t
  rw [block_at]
  unfold outrow
  have h0 : ∀ k, iblk m c 0 t (ix3 0 r k) = V m c main_arg0 (ix3 b T k) := fun k => by blk_ext [iblk, e0, hb, hT]
  have h2 : ∀ k, iblk m c 2 t (ix3 0 r k) = V m c main_v3 (ix3 b T k) := fun k => by blk_ext [iblk, e2, hb, hT]
  have q1 : T.val / 8 % 16 = r.val / 8 % 16 := by omega
  have q2 : T.val / 128 * 8 + T.val % 8 = t.val % 32 * 32 + (r.val / 128 * 8 + r.val % 8) := by omega
  have h1 : ∀ k : Fin 1024, slabs (iblk m c 1 t) (ix2 r k) = V m c main_v2 (ix5 b ⟨k.val / 128, by omega⟩ ⟨T.val / 8 % 16, by omega⟩
          ⟨T.val / 128 * 8 + T.val % 8, by omega⟩ ⟨k.val % 128, by omega⟩) := fun k => by
    rw [slabs_at]
    blk_ext [iblk, e1, hb, q1, q2]
  congr 1
  · congr 1
    · funext k; exact h0 k
    · funext k; exact congrArg₂ (fun a b : EReal => a * b) (h1 k) (h2 k)
    · funext a b; blk_ext [iblk, e3]
    · funext a; blk_ext [iblk, e4]
  · funext a; blk_ext [iblk, e5]
  · funext a b; blk_ext [iblk, e6]
  · funext a b; blk_ext [iblk, e7]
  · funext a b; blk_ext [iblk, e8]

/-- The result array after the region. -/
theorem out_final (c : Dev nD) : (dats m 0 c).arrAt 9 cfg0.N
    = fun i : S2x16384x1024.Idx => outrow m c ⟨(i 0).val, (i 0).isLt⟩ ⟨(i 1).val, (i 1).isLt⟩ ⟨(i 2).val, (i 2).isLt⟩ := by
  refine (dats m 0 c).arrAt_eq_of_covers 9 _ (by decide +kernel) fun t hf y => ?_
  blk_simp; rw [after0_9]
  unfold out0_9
  rw [pay474_eq]
  unfold k0_pay475
  frame_out
  idx_vars y
  obtain ⟨-, -, -, -, -, -, -, -, -, e⟩ := idx0 t
  pointwise
  have z : y0 = 0 := Subsingleton.elim _ _
  subst z
  exact (out_blk m c t y1 _ _ _ (by simp [e]) (by simp [e])).trans (congrArg (outrow m c _ _) (Fin.ext (by simp [e])))

/-- The grouped array the region finds, at a token and a channel: the convolved array there. -/
theorem v2_at (c : Dev nD) (b : Fin 2) (T : Fin 16384) (k : Fin 1024) :
    V m c main_v2 (ix5 b ⟨k.val / 128, by omega⟩ ⟨T.val / 8 % 16, by omega⟩
          ⟨T.val / 128 * 8 + T.val % 8, by omega⟩ ⟨k.val % 128, by omega⟩) = m ((c : Thread nD τ).loc main_arg1) (ix3 b T k) := by
  unfold V
  after_reads_at
  exact congrArg₂ (fun (p : Fin 16384) (q : Fin 1024) => m ((c : Thread nD τ).loc main_arg1) (ix3 b p q))
    (Fin.ext (by show (T.val / 128 * 8 + T.val % 8) / 8 * 128 + T.val / 8 % 16 * 8 + (T.val / 128 * 8 + T.val % 8) % 8 = T.val; omega))
    (Fin.ext (by show k.val / 128 * 128 + k.val % 128 = k.val; omega))

theorem v3_at (c : Dev nD) (b : Fin 2) (T : Fin 16384) (k : Fin 1024) :
    V m c main_v3 (ix3 b T k) = m ((c : Thread nD τ).loc main_arg2) (ix3 b T k) := by
  unfold V
  after_reads_at

theorem v4_at (c : Dev nD) (k n : Fin 1024) : V m c main_v4 (ix2 k n) = m ((c : Thread nD τ).loc main_arg3) (ix2 k n) := by
  unfold V
  after_reads_at

theorem v5_at (c : Dev nD) (n : Fin 1024) : V m c main_v5 (ix2 0 n) = m ((c : Thread nD τ).loc main_arg4) (ix1 n) := by
  unfold V
  after_reads_at

theorem v6_at (c : Dev nD) (n : Fin 1024) : V m c main_v6 (ix2 0 n) = m ((c : Thread nD τ).loc main_arg5) (ix1 n) := by
  unfold V
  after_reads_at

theorem v7_at (c : Dev nD) (k : Fin 1024) (f : Fin 2816) : V m c main_v7 (ix2 k f) = m ((c : Thread nD τ).loc main_arg6) (ix2 k f) := by
  unfold V
  after_reads_at

theorem v8_at (c : Dev nD) (k : Fin 1024) (f : Fin 2816) : V m c main_v8 (ix2 k f) = m ((c : Thread nD τ).loc main_arg7) (ix2 k f) := by
  unfold V
  after_reads_at

theorem v9_at (c : Dev nD) (f : Fin 2816) (n : Fin 1024) : V m c main_v9 (ix2 f n) = m ((c : Thread nD τ).loc main_arg8) (ix2 f n) := by
  unfold V
  after_reads_at

theorem row_congr {x x' a a' : Fin 1024 → EReal} {wo wo' : Fin 1024 → Fin 1024 → EReal} {bo bo' g g' : Fin 1024 → EReal}
    {wg wg' wu wu' : Fin 1024 → Fin 2816 → EReal} {wd wd' : Fin 2816 → Fin 1024 → EReal} (n : Fin 1024)
    (h1 : x = x') (h2 : a = a') (h3 : wo = wo') (h4 : bo = bo') (h5 : g = g') (h6 : wg = wg') (h7 : wu = wu') (h8 : wd = wd') :
    ffn (resid x a wo bo) g wg wu wd n = ffn (resid x' a' wo' bo') g' wg' wu' wd' n := by
  subst h1 h2 h3 h4 h5 h6 h7 h8
  rfl

/-- The kernel's result at a token and a channel, from the arguments. -/
theorem out_at (c : Dev nD) (b : Fin 2) (T : Fin 16384) (n : Fin 1024) : (dats m 0 c).arrAt 9 cfg0.N (ix3 b T n)
    = outAt (fun b t k => m ((c : Thread nD τ).loc main_arg0) (ix3 b t k)) (fun b t k => m ((c : Thread nD τ).loc main_arg1) (ix3 b t k))
        (fun b t k => m ((c : Thread nD τ).loc main_arg2) (ix3 b t k)) (fun k n => m ((c : Thread nD τ).loc main_arg3) (ix2 k n))
        (fun n => m ((c : Thread nD τ).loc main_arg4) (ix1 n)) (fun n => m ((c : Thread nD τ).loc main_arg5) (ix1 n))
        (fun k f => m ((c : Thread nD τ).loc main_arg6) (ix2 k f)) (fun k f => m ((c : Thread nD τ).loc main_arg7) (ix2 k f))
        (fun f n => m ((c : Thread nD τ).loc main_arg8) (ix2 f n)) b T n := by
  refine (congrFun (out_final m c) (ix3 b T n)).trans ?_
  exact row_congr n (funext fun k => congrFun (V_main_arg0 m c) _)
    (funext fun k => congrArg₂ (fun a b : EReal => a * b) (v2_at m c b T k) (v3_at m c b T k))
    (funext fun k => funext fun n => v4_at m c k n) (funext fun n => v5_at m c n) (funext fun n => v6_at m c n)
    (funext fun k => funext fun f => v7_at m c k f) (funext fun k => funext fun f => v8_at m c k f)
    (funext fun f => funext fun n => v9_at m c f n)

end Cert.ProjFfnIdeal.Value

end
-- ==== Proof.OutRef.lean ====
/- The reference of the output projection after the long convolution, at an index. -/
module

public import proofs.«01_k».proof.Proof.Gen.ProjFfnReferenceIdeal.Run
public import proofs.«01_k».proof.Proof.Spec
public import Idealize.ShloMosaic.Lib.Pointwise

@[expose] public section

set_option maxRecDepth 16384

noncomputable section

namespace Cert.ProjFfnReferenceIdeal.Value

open Idealize.ShloMosaic Idealize.ShloMosaic.TcCoe Idealize.SL.Sem
open Cert.ProjFfnReferenceIdeal Cert.ProjFfnReferenceIdeal.Gen Cert.Layer

/-- The residual rows: the gated convolved rows through the output projection, added to the rows. -/
def resT (x y x0 : FVec Ideal S2x16384x1024 .f32) (wo : FVec Ideal S1024x1024 .f32) (bo : FVec Ideal S1024 .f32) : FVec Ideal S2x16384x1024 .f32 :=
  addf x (addf (Host.dotGeneral (F := Ideal) dot_S2x16384x1024_S1024x1024_S2x16384x1024_2_0_01_1_n_n none (mulf y x0) wo)
    (broadcastInDim S2x16384x1024 ![0, 1, 2] bcast_S1x1x1024_S2x16384x1024_0_1_2 (broadcastInDim S1x1x1024 ![2] bcast_S1024_S1x1x1024_2 bo)))

/-- The normalisation of an array's rows. -/
def normT (y : FVec Ideal S2x16384x1024 .f32) (g : FVec Ideal S1024 .f32) : FVec Ideal S2x16384x1024 .f32 :=
  mulf (mulf y (broadcastInDim S2x16384x1024 ![0, 1, 2] bcast_S2x16384x1_S2x16384x1024_0_1_2 (Host.rsqrt (F := Ideal)
    (addf (Host.divf (broadcastInDim S2x16384x1 ![0, 1] bcast_S2x16384_S2x16384x1_0_1
        (Host.reduceAdd (mulf y y) (constant S_ .f32 0x00000000#32) reducesTo_S2x16384x1024_S2x16384_d2 h_S_))
      (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The rows through a matrix with 2816 columns. -/
def colsT (h : FVec Ideal S2x16384x1024 .f32) (w : FVec Ideal S1024x2816 .f32) : FVec Ideal S2x16384x2816 .f32 :=
  Host.dotGeneral (F := Ideal) dot_S2x16384x1024_S1024x2816_S2x16384x2816_2_0_01_1_n_n none h w

/-- The feed-forward part with its residual. -/
def ffnT (y : FVec Ideal S2x16384x1024 .f32) (w u : FVec Ideal S2x16384x2816 .f32) (wd : FVec Ideal S2816x1024 .f32) : FVec Ideal S2x16384x1024 .f32 :=
  addf y (Host.dotGeneral (F := Ideal) dot_S2x16384x2816_S2816x1024_S2x16384x1024_2_0_01_1_n_n none
    (mulf (mulf w (Host.divf (broadcastInDim S2x16384x2816 ![] bcast_S_S2x16384x2816 (constant S_ .f32 0x3F800000#32))
      (addf (broadcastInDim S2x16384x2816 ![] bcast_S_S2x16384x2816 (constant S_ .f32 0x3F800000#32)) (Host.exp (Host.negf w))))) u) wd)

theorem resT_at (x y x0 : FVec Ideal S2x16384x1024 .f32) (wo : FVec Ideal S1024x1024 .f32) (bo : FVec Ideal S1024 .f32)
    (b : Fin 2) (t : Fin 16384) (n : Fin 1024) : resT x y x0 wo bo (ix3 b t n)
      = resid (fun k => x (ix3 b t k)) (fun k => y (ix3 b t k) * x0 (ix3 b t k)) (fun k n => wo (ix2 k n)) (fun n => bo (ix1 n)) n := by
  pointwise [resT, resid]

theorem normT_at (y : FVec Ideal S2x16384x1024 .f32) (g : FVec Ideal S1024 .f32) (b : Fin 2) (t : Fin 16384) (n : Fin 1024) :
    normT y g (ix3 b t n) = rms (fun k => y (ix3 b t k)) (fun k => g (ix1 k)) n := by
  unfold rms normT
  pointwise

theorem colsT_at (h : FVec Ideal S2x16384x1024 .f32) (w : FVec Ideal S1024x2816 .f32) (b : Fin 2) (t : Fin 16384) (f : Fin 2816) :
    colsT h w (ix3 b t f) = ∑ k, h (ix3 b t k) * w (ix2 k f) := by
  unfold colsT
  pointwise

theorem ffnT_at (y : FVec Ideal S2x16384x1024 .f32) (w u : FVec Ideal S2x16384x2816 .f32) (wd : FVec Ideal S2816x1024 .f32)
    (b : Fin 2) (t : Fin 16384) (n : Fin 1024) : ffnT y w u wd (ix3 b t n)
      = y (ix3 b t n) + ∑ f, w (ix3 b t f) * Ideal.logistic (w (ix3 b t f)) * u (ix3 b t f) * wd (ix2 f n) := by
  unfold ffnT
  pointwise
  rfl

/-- The composition of the four at an index. -/
theorem whole_at (x y x0 : FVec Ideal S2x16384x1024 .f32) (wo : FVec Ideal S1024x1024 .f32) (bo g : FVec Ideal S1024 .f32)
    (wg wu : FVec Ideal S1024x2816 .f32) (wd : FVec Ideal S2816x1024 .f32) (b : Fin 2) (t : Fin 16384) (n : Fin 1024) :
    ffnT (resT x y x0 wo bo) (colsT (normT (resT x y x0 wo bo) g) wg) (colsT (normT (resT x y x0 wo bo) g) wu) wd (ix3 b t n)
      = outAt (fun b t k => x (ix3 b t k)) (fun b t k => y (ix3 b t k)) (fun b t k => x0 (ix3 b t k)) (fun k n => wo (ix2 k n))
          (fun n => bo (ix1 n)) (fun n => g (ix1 n)) (fun k f => wg (ix2 k f)) (fun k f => wu (ix2 k f)) (fun f n => wd (ix2 f n)) b t n := by
  simp only [ffnT_at, colsT_at, normT_at, resT_at]
  rfl

variable (m : (ℓ : Loc nD τ sig) → Buf (Elt Ideal) ℓ)

/-- The reference's result is that composition of its arguments. -/
theorem v24_eq (c : Dev nD) : res_main_v24 m c
    = ffnT (resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
        (colsT (normT (resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5))) (m ((c.tc : Thread nD τ).loc main_arg6)))
        (colsT (normT (resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5))) (m ((c.tc : Thread nD τ).loc main_arg7)))
        (m ((c.tc : Thread nD τ).loc main_arg8)) := rfl

end Cert.ProjFfnReferenceIdeal.Value

end
-- ==== Proof.lean ====
/- The proof of the claims about the attention layer's calls and about the entry and the output projection of the convolution layer. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Run
public import proofs.«01_k».proof.Proof.Finite
public import proofs.«01_k».proof.Proof.RefTail
public import proofs.«01_k».proof.Proof.Equation
public import proofs.«01_k».proof.Proof.Gen.ProjFfn
public import proofs.«01_k».proof.Proof.Gen.ProjFfn.Frame
public import proofs.«01_k».proof.Proof.Gen.ProjFfnIdeal
public import proofs.«01_k».proof.Proof.Gen.ProjFfnIdeal.Frame
public import proofs.«01_k».proof.Proof.Gen.ProjFfnIdeal.Value
public import proofs.«01_k».proof.Proof.Gen.ProjFfnReferenceIdeal
public import proofs.«01_k».proof.Proof.Gen.ProjFfnReferenceIdeal.Run
public import proofs.«01_k».proof.Proof.Gen.HyenaIn
public import proofs.«01_k».proof.Proof.Gen.HyenaIn.Frame
public import proofs.«01_k».proof.Proof.Gen.HyenaInIdeal
public import proofs.«01_k».proof.Proof.Gen.HyenaInIdeal.Frame
public import proofs.«01_k».proof.Proof.Gen.HyenaInReferenceIdeal
public import proofs.«01_k».proof.Proof.Gen.HyenaInReferenceIdeal.Run
public import proofs.«01_k».proof.Proof.Gen.Pre_finite_in
public import proofs.«01_k».proof.Proof.InRun
public import proofs.«01_k».proof.Proof.InRef
public import proofs.«01_k».proof.Proof.OutKernel
public import proofs.«01_k».proof.Proof.OutRef
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem

/-- Where the two programs start from the same arrays, their arguments are the same. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    : Cert.ReferenceIdeal.Value.rargs (launchContents m' c) = Cert.KernelIdeal.Value.kargs m c := by
  unfold Cert.ReferenceIdeal.Value.rargs Cert.KernelIdeal.Value.kargs
  congr 1
  · exact funext fun b => funext fun t => funext fun k => congrFun h0 (ix3 b t k)
  · exact funext fun k => congrFun h1 (ix1 k)
  · exact funext fun k => congrFun h2 (ix1 k)
  · exact funext fun k => congrFun h3 (ix1 k)
  · exact funext fun k => funext fun n => congrFun h4 (ix2 k n)
  · exact funext fun n => congrFun h5 (ix1 n)
  · exact funext fun h => funext fun e => funext fun l => congrFun h6 (ix3 h e l)
  · exact funext fun k => funext fun n => congrFun h7 (ix2 k n)
  · exact funext fun n => congrFun h8 (ix1 n)
  · exact funext fun k => funext fun n => congrFun h9 (ix2 k n)
  · exact funext fun k => funext fun n => congrFun h10 (ix2 k n)
  · exact funext fun k => funext fun n => congrFun h11 (ix2 k n)

/-- The kernel and the reference return the same array, where the logits are real numbers. -/
theorem algebraic : @Cert.algebraic_KernelIdeal_ReferenceIdeal_pre_finite Cert.KernelIdeal.Gen.facts Cert.ReferenceIdeal.Gen.facts Cert.Pre_finite.Gen.facts := by
  intro m ρ m' ρ' hpre hagree
  refine ⟨_, (Cert.KernelIdeal.Value.run m ρ), ?_⟩
  refine (θ_run Cert.ReferenceIdeal.defs _ _).mono (fun _ h c => ⟨(h c).1.trans ?_, (h c).2⟩) (Cert.ReferenceIdeal.Value.run (F := Ideal) m' ρ')
  obtain ⟨r1, r4, r5, r6⟩ := Cert.Layer.finite_real _ _ _ _ _ _ _ _ _ _ _ _ (hpre c)
  obtain ⟨a0, a1, a2, a3, a4, a5, a6, a7, a8, a9, a10, a11⟩ := hagree c
  have hA := args_eq m m' c a0 a1 a2 a3 a4 a5 a6 a7 a8 a9 a10 a11
  funext i
  obtain ⟨b, t, n, rfl⟩ : ∃ b t n, i = ix3 b t n := ⟨i 0, i 1, i 2, by funext k; fin_cases k <;> rfl⟩
  refine (Cert.ReferenceIdeal.Value.v156_at (launchContents m' c) b t n).trans ?_
  refine Eq.trans ?_ (Cert.KernelIdeal.Value.v24_at m ρ c b t n).symm
  rw [hA, Cert.Layer.katt_eq (Cert.KernelIdeal.Value.kargs m c)
    (Cert.Layer.z_real _ (fun k => r1 (ix1 k)) (fun k n => r4 (ix2 k n)) (fun n => r5 (ix1 n)))
    (fun h e l => r6 (ix3 h e l))]

/-- The output projection of the convolution layer: the kernel and the reference return the same array. -/
theorem algebraic_out : @Cert.algebraic_ProjFfnIdeal_ProjFfnReferenceIdeal Cert.ProjFfnIdeal.Gen.facts Cert.ProjFfnReferenceIdeal.Gen.facts := by
  intro m ρ m' ρ' _ hagree
  refine ⟨fun c => (Cert.ProjFfnIdeal.Gen.dats m 0 c).arrAt 9 Cert.ProjFfnIdeal.cfg0.N, Cert.ProjFfnIdeal.Value.run_blocks m ρ, ?_⟩
  refine (θ_run Cert.ProjFfnReferenceIdeal.defs _ _).mono (fun _ h c => ⟨(h c).1.trans ?_, (h c).2⟩)
    (Cert.ProjFfnReferenceIdeal.Value.run (F := Ideal) m' ρ')
  obtain ⟨a0, a1, a2, a3, a4, a5, a6, a7, a8⟩ := hagree c
  funext i
  obtain ⟨b, t, n, rfl⟩ : ∃ b t n, i = ix3 b t n := ⟨i 0, i 1, i 2, by funext k; fin_cases k <;> rfl⟩
  refine (congrFun (Cert.ProjFfnReferenceIdeal.Value.v24_eq m' c) _).trans ?_
  refine (Cert.ProjFfnReferenceIdeal.Value.whole_at _ _ _ _ _ _ _ _ _ b t n).trans ?_
  refine Eq.trans ?_ (Cert.ProjFfnIdeal.Value.out_at m c b t n).symm
  rw [a0, a1, a2, a3, a4, a5, a6, a7, a8]

/-- The entry of the convolution layer: where the offset and the short filter are real, the kernel and the reference return
    the same two arrays. -/
theorem algebraic_in : @Cert.algebraic_HyenaInIdeal_HyenaInReferenceIdeal_pre_finite_in Cert.HyenaInIdeal.Gen.facts Cert.HyenaInReferenceIdeal.Gen.facts Cert.Pre_finite_in.Gen.facts := by
  intro m ρ m' ρ' hpre hagree
  refine ⟨fun c => Cert.HyenaInIdeal.Value.out0 m c, fun c => Cert.HyenaInIdeal.Value.out1 m c, Cert.HyenaInIdeal.Value.run m ρ, ?_⟩
  refine (θ_run Cert.HyenaInReferenceIdeal.defs _ _).mono (fun _ h c => ⟨(h c).1.trans ?_, (h c).2.1.trans ?_, (h c).2.2⟩)
    (Cert.HyenaInReferenceIdeal.Value.run (F := Ideal) m' ρ')
  all_goals
    obtain ⟨r3, r4⟩ := Cert.Layer.finite_in_real _ _ _ _ _ _ (hpre c)
    have hr : (Cert.HyenaInIdeal.Value.kargs m c).Real := ⟨fun n => r3 (ix1 n), fun j n => r4 (ix2 j n)⟩
    obtain ⟨a0, a1, a2, a3, a4, a5⟩ := hagree c
    funext i
    obtain ⟨b, t, n, rfl⟩ : ∃ b t n, i = ix3 b t n := ⟨i 0, i 1, i 2, by funext k; fin_cases k <;> rfl⟩
  · refine (congrFun (Cert.HyenaInReferenceIdeal.Value.out0_eq m' c) _).trans ?_
    refine (Cert.HyenaInReferenceIdeal.Value.firstT_at _ _ _ _ _ _ b t n).trans ?_
    refine Eq.trans ?_ (Cert.HyenaInIdeal.Value.out0_at m c hr b t n).symm
    rw [a0, a1, a2, a3, a4, a5]
    rfl
  · refine (congrFun (Cert.HyenaInReferenceIdeal.Value.out1_eq m' c) _).trans ?_
    refine (Cert.HyenaInReferenceIdeal.Value.secondT_at _ _ _ _ _ _ b t n).trans ?_
    refine Eq.trans ?_ (Cert.HyenaInIdeal.Value.out1_at m c hr b t n).symm
    rw [a0, a1, a2, a3, a4, a5]
    rfl

/-- All the claims together. -/
theorem claim : Cert.Claim := ⟨Cert.Kernel.Gen.facts, Cert.KernelIdeal.Gen.facts, Cert.ReferenceIdeal.Gen.facts,
  Cert.HyenaIn.Gen.facts, Cert.HyenaInIdeal.Gen.facts, Cert.HyenaInReferenceIdeal.Gen.facts,
  Cert.ProjFfn.Gen.facts, Cert.ProjFfnIdeal.Gen.facts, Cert.ProjFfnReferenceIdeal.Gen.facts, Cert.Pre_finite.Gen.facts, Cert.Pre_finite_in.Gen.facts,
  fun m ρ _ => Cert.Kernel.Gen.frame m ρ, fun m ρ _ => Cert.KernelIdeal.Gen.frame m ρ, fun m ρ _ => Cert.KernelIdeal.Gen.frame m ρ,
  fun m ρ _ => (θ_run Cert.ReferenceIdeal.defs _ _).mono
      (fun r h => ⟨fun c => (h c).2, Idealize.ShloMosaic.sem_eq_zero_of_no_sems (by decide) r.2⟩)
      (Cert.ReferenceIdeal.Value.run (F := Ideal) m ρ), fun m ρ _ => (θ_run Cert.ReferenceIdeal.defs _ _).mono
      (fun r h => ⟨fun c => (h c).2, Idealize.ShloMosaic.sem_eq_zero_of_no_sems (by decide) r.2⟩)
      (Cert.ReferenceIdeal.Value.run (F := Ideal) m ρ),
  fun m ρ _ => Cert.HyenaIn.Gen.frame m ρ, fun m ρ _ => Cert.HyenaInIdeal.Gen.frame m ρ, fun m ρ _ => Cert.HyenaInIdeal.Gen.frame m ρ,
  fun m ρ _ => (θ_run Cert.HyenaInReferenceIdeal.defs _ _).mono
      (fun r h => ⟨fun c => (h c).2.2, Idealize.ShloMosaic.sem_eq_zero_of_no_sems (by decide) r.2⟩)
      (Cert.HyenaInReferenceIdeal.Value.run (F := Ideal) m ρ), fun m ρ _ => (θ_run Cert.HyenaInReferenceIdeal.defs _ _).mono
      (fun r h => ⟨fun c => (h c).2.2, Idealize.ShloMosaic.sem_eq_zero_of_no_sems (by decide) r.2⟩)
      (Cert.HyenaInReferenceIdeal.Value.run (F := Ideal) m ρ),
  fun m ρ _ => Cert.ProjFfn.Gen.frame m ρ, fun m ρ _ => Cert.ProjFfnIdeal.Gen.frame m ρ,
  fun m ρ _ => (θ_run Cert.ProjFfnReferenceIdeal.defs _ _).mono
      (fun r h => ⟨fun c => (h c).2, Idealize.ShloMosaic.sem_eq_zero_of_no_sems (by decide) r.2⟩)
      (Cert.ProjFfnReferenceIdeal.Value.run (F := Ideal) m ρ),
  ⟨IdealRules.named_const.statement Cert.KernelIdeal.κ "qscale" .f32 0x3E38AA3B#32 (((8 * (Real.log 2))⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩,
  algebraic, trivial, algebraic_in, trivial, algebraic_out⟩

end Cert.Proof

end
